-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)) (v6 : (c : Dev Cert.Kernel3Ideal.nD) → Buf (Elt Ideal) ((c.tc : Thread Cert.Kernel3Ideal.nD Cert.Kernel3Ideal.τ).loc Cert.Kernel3Ideal.main_v6_6)) (v7 : (c : Dev Cert.Kernel3Ideal.nD) → Buf (Elt Ideal) ((c.tc : Thread Cert.Kernel3Ideal.nD Cert.Kernel3Ideal.τ).loc Cert.Kernel3Ideal.main_v6_7)) (v8 : (c : Dev Cert.Kernel3Ideal.nD) → Buf (Elt Ideal) ((c.tc : Thread Cert.Kernel3Ideal.nD Cert.Kernel3Ideal.τ).loc Cert.Kernel3Ideal.main_v6_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_v6_7) = v7 c
          ∧ r.2.mem ((c.tc : Thread Cert.Kernel3Ideal.nD Cert.Kernel3Ideal.τ).loc Cert.Kernel3Ideal.main_v6_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_v45) = v4 c
          ∧ r.2.mem ((c.tc : Thread Cert.Reference3Ideal.nD Cert.Reference3Ideal.τ).loc Cert.Reference3Ideal.main_v46) = v5 c
          ∧ r.2.mem ((c.tc : Thread Cert.Reference3Ideal.nD Cert.Reference3Ideal.τ).loc Cert.Reference3Ideal.main_v49) = v6 c
          ∧ r.2.mem ((c.tc : Thread Cert.Reference3Ideal.nD Cert.Reference3Ideal.τ).loc Cert.Reference3Ideal.main_v50) = v7 c
          ∧ r.2.mem ((c.tc : Thread Cert.Reference3Ideal.nD Cert.Reference3Ideal.τ).loc Cert.Reference3Ideal.main_v51) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x512 : Shape := ⟨3, ![8, 4096, 512]⟩
abbrev S8x256x512 : Shape := ⟨3, ![8, 256, 512]⟩
abbrev S8x15x31 : Shape := ⟨3, ![8, 15, 31]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_arg3 : FVec F S8x256x512 .bf16) (main_arg5 : FVec F S8x15x31 .f32) (main_v12 : IVec S_ 1) (main_v14 : IVec S8x256x512 1) (main_v15 : FVec F S8x256x512 .bf16) : IVec S_ 1 :=
  let main_v16 : IVec S8x256x512 1 := cmpf .olt main_arg3 main_v15
  let main_v17 : IVec S8x256x512 1 := andi main_v14 main_v16
  let main_c_6 : IVec S_ 1 := constantI S_ 1 1#1
  let main_v18 : IVec S_ 1 := (fun x v => Host.reduce IntOp.andi x v reducesTo_S8x256x512_S_d0_1_2 h_S_) main_v17 main_c_6
  let main_v19 : IVec S_ 1 := andi main_v12 main_v18
  let main_cst_7 : FVec F S_ .f32 := constant S_ .f32 0xFF800000#32
  let main_v20 : FVec F S8x15x31 .f32 := broadcastInDim S8x15x31 ![] bcast_S_S8x15x31 main_cst_7
  let main_v21 : IVec S8x15x31 1 := cmpf .ogt main_arg5 main_v20
  let main_cst_8 : FVec F S_ .f32 := constant S_ .f32 0x7F800000#32
  let main_v22 : FVec F S8x15x31 .f32 := broadcastInDim S8x15x31 ![] bcast_S_S8x15x31 main_cst_8
  let main_v23 : IVec S8x15x31 1 := cmpf .olt main_arg5 main_v22
  let main_v24 : IVec S8x15x31 1 := andi main_v21 main_v23
  let main_c_9 : IVec S_ 1 := constantI S_ 1 1#1
  let main_v25 : IVec S_ 1 := (fun x v => Host.reduce IntOp.andi x v reducesTo_S8x15x31_S_d0_1_2 h_S_) main_v24 main_c_9
  let main_v26 : IVec S_ 1 := andi main_v19 main_v25
  main_v26

def fn {F : FTy → Type} [FloatOps F] (main_arg0 : FVec F S8x4096x512 .f32) (main_arg1 : FVec F S8x4096x512 .bf16) (main_arg2 : FVec F S8x4096x512 .bf16) (main_arg3 : FVec F S8x256x512 .bf16) (main_arg4 : FVec F S8x256x512 .bf16) (main_arg5 : FVec F S8x15x31 .f32) : IVec S_ 1 :=
  let main_cst : FVec F S_ .f32 := constant S_ .f32 0xFF800000#32
  let main_v0 : FVec F S8x4096x512 .f32 := broadcastInDim S8x4096x512 ![] bcast_S_S8x4096x512 main_cst
  let main_v1 : IVec S8x4096x512 1 := cmpf .ogt main_arg0 main_v0
  let main_cst_0 : FVec F S_ .f32 := constant S_ .f32 0x7F800000#32
  let main_v2 : FVec F S8x4096x512 .f32 := broadcastInDim S8x4096x512 ![] bcast_S_S8x4096x512 main_cst_0
  let main_v3 : IVec S8x4096x512 1 := cmpf .olt main_arg0 main_v2
  let main_v4 : IVec S8x4096x512 1 := andi main_v1 main_v3
  let main_c : IVec S_ 1 := constantI S_ 1 1#1
  let main_v5 : IVec S_ 1 := (fun x v => Host.reduce IntOp.andi x v reducesTo_S8x4096x512_S_d0_1_2 h_S_) main_v4 main_c
  let main_cst_1 : FVec F S_ .bf16 := constant S_ .bf16 0xFF80#16
  let main_v6 : FVec F S8x4096x512 .bf16 := broadcastInDim S8x4096x512 ![] bcast_S_S8x4096x512 main_cst_1
  let main_v7 : IVec S8x4096x512 1 := cmpf .ogt main_arg1 main_v6
  let main_cst_2 : FVec F S_ .bf16 := constant S_ .bf16 0x7F80#16
  let main_v8 : FVec F S8x4096x512 .bf16 := broadcastInDim S8x4096x512 ![] bcast_S_S8x4096x512 main_cst_2
  let main_v9 : IVec S8x4096x512 1 := cmpf .olt main_arg1 main_v8
  let main_v10 : IVec S8x4096x512 1 := andi main_v7 main_v9
  let main_c_3 : IVec S_ 1 := constantI S_ 1 1#1
  let main_v11 : IVec S_ 1 := (fun x v => Host.reduce IntOp.andi x v reducesTo_S8x4096x512_S_d0_1_2 h_S_) main_v10 main_c_3
  let main_v12 : IVec S_ 1 := andi main_v5 main_v11
  let main_cst_4 : FVec F S_ .bf16 := constant S_ .bf16 0xFF80#16
  let main_v13 : FVec F S8x256x512 .bf16 := broadcastInDim S8x256x512 ![] bcast_S_S8x256x512 main_cst_4
  let main_v14 : IVec S8x256x512 1 := cmpf .ogt main_arg3 main_v13
  let main_cst_5 : FVec F S_ .bf16 := constant S_ .bf16 0x7F80#16
  let main_v15 : FVec F S8x256x512 .bf16 := broadcastInDim S8x256x512 ![] bcast_S_S8x256x512 main_cst_5
  fn_part1 (F := F) main_arg3 main_arg5 main_v12 main_v14 main_v15
-- ==== Kernel.lean ====
abbrev S8x4096x512 : Shape := ⟨3, ![8, 4096, 512]⟩
abbrev S8x256x512 : Shape := ⟨3, ![8, 256, 512]⟩
abbrev S8x15x31 : Shape := ⟨3, ![8, 15, 31]⟩
abbrev S_ : Shape := ⟨0, ![]⟩
abbrev S8x16x128 : Shape := ⟨3, ![8, 16, 128]⟩
abbrev S4x14x128x128 : Shape := ⟨4, ![4, 14, 128, 128]⟩
abbrev S2x16x128 : Shape := ⟨3, ![2, 16, 128]⟩
abbrev S1x14x128x128 : Shape := ⟨4, ![1, 14, 128, 128]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩
abbrev S1x4096x128 : Shape := ⟨3, ![1, 4096, 128]⟩
abbrev S1x256x128 : Shape := ⟨3, ![1, 256, 128]⟩
abbrev S256x128 : Shape := ⟨2, ![256, 128]⟩
abbrev S1x64x128 : Shape := ⟨3, ![1, 64, 128]⟩
abbrev S1x512x128 : Shape := ⟨3, ![1, 512, 128]⟩
abbrev S512x128 : Shape := ⟨2, ![512, 128]⟩
abbrev S4096x128 : Shape := ⟨2, ![4096, 128]⟩
abbrev S4096x256 : Shape := ⟨2, ![4096, 256]⟩
abbrev S1x1x128x128 : Shape := ⟨4, ![1, 1, 128, 128]⟩
abbrev S128x128 : Shape := ⟨2, ![128, 128]⟩
abbrev S128x512 : Shape := ⟨2, ![128, 512]⟩
abbrev S128x256 : Shape := ⟨2, ![128, 256]⟩
abbrev S128 : Shape := ⟨1, ![128]⟩
abbrev S128x1 : Shape := ⟨2, ![128, 1]⟩

abbrev nBuf : Space → Nat
  | .hbm => 15
  | .vmem => 18
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .bf16⟩
  | .hbm, ⟨2, _⟩ => ⟨S8x4096x512, .bf16⟩
  | .hbm, ⟨3, _⟩ => ⟨S8x256x512, .bf16⟩
  | .hbm, ⟨4, _⟩ => ⟨S8x256x512, .bf16⟩
  | .hbm, ⟨5, _⟩ => ⟨S8x15x31, .f32⟩
  | .hbm, ⟨6, _⟩ => ⟨S_, .f32⟩
  | .hbm, ⟨7, _⟩ => ⟨S8x4096x512, .f32⟩
  | .hbm, ⟨8, _⟩ => ⟨S8x4096x512, .f32⟩
  | .hbm, ⟨9, _⟩ => ⟨S8x4096x512, .bf16⟩
  | .hbm, ⟨10, _⟩ => ⟨S_, .i32⟩
  | .hbm, ⟨11, _⟩ => ⟨S_, .f32⟩
  | .hbm, ⟨12, _⟩ => ⟨S8x16x128, .f32⟩
  | .hbm, ⟨13, _⟩ => ⟨S4x14x128x128, .f32⟩
  | .hbm, ⟨14, _⟩ => ⟨S8x4096x512, .bf16⟩
  | .local _ .vmem, ⟨0, _⟩ => ⟨S2x16x128, .f32⟩
  | .local _ .vmem, ⟨1, _⟩ => ⟨S2x16x128, .f32⟩
  | .local _ .vmem, ⟨2, _⟩ => ⟨S1x14x128x128, .f32⟩
  | .local _ .vmem, ⟨3, _⟩ => ⟨S1x14x128x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x14x128x128, .f32⟩
  | .local _ .vmem, ⟨15, _⟩ => ⟨S1x14x128x128, .f32⟩
  | .local _ .vmem, ⟨16, _⟩ => ⟨S1x4096x128, .bf16⟩
  | .local _ .vmem, ⟨17, _⟩ => ⟨S1x4096x128, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

@[reducible] def k1_t1_loop : Scf.Loop 32 :=
  let c0_i32 : BitVec 32 := 0#32
  let c2_i32 : BitVec 32 := 2#32
  let v7 : BitVec 32 := Scalar.addi c0_i32 c2_i32
  let c1_i32 : BitVec 32 := 1#32
  ⟨c0_i32, v7, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32 : BitVec 32 := 32#32
  let v8 : BitVec 32 := Scalar.muli arg9 c32_i32
  let c0_i32_6 : BitVec 32 := 0#32
  let v9 : BitVec 32 := Scalar.addi v8 c0_i32_6
  let c64_i32_8 : BitVec 32 := 64#32
  let v14 : BitVec 32 := Scalar.muli v9 c64_i32_8
  v14
def k1_mult2 (k1_t1 : Fin k1_t1_loop.trips) : BitVec 32 :=
  let c56_i32 : BitVec 32 := 56#32
  let c0_i32_7 : BitVec 32 := 0#32
  let c0_i32 : BitVec 32 := 0#32
  let c1_i32 : BitVec 32 := 1#32
  let arg9 : BitVec 32 := Scf.iv c0_i32 c1_i32 k1_t1
  let c32_i32 : BitVec 32 := 32#32
  let v8 : BitVec 32 := Scalar.muli arg9 c32_i32
  let c0_i32_6 : BitVec 32 := 0#32
  let v9 : BitVec 32 := Scalar.addi v8 c0_i32_6
  let c4_i32 : BitVec 32 := 4#32
  let v10 : BitVec 32 := Scalar.subi v9 c4_i32
  let v11 : BitVec 32 := Scalar.maxsi c0_i32_7 v10
  let v12 : BitVec 32 := Scalar.minsi c56_i32 v11
  let c64_i32_9 : BitVec 32 := 64#32
  let v16 : BitVec 32 := Scalar.muli v12 c64_i32_9
  v16
def k1_off1 (k1_t1 : Fin k1_t1_loop.trips) (c0_i32_6 : BitVec 32) : Fin 3 → Nat :=
  let c0_10 : Index := 0#32
  let c0_i32 : BitVec 32 := 0#32
  let c1_i32 : BitVec 32 := 1#32
  let arg9 : BitVec 32 := Scf.iv c0_i32 c1_i32 k1_t1
  let c32_i32 : BitVec 32 := 32#32
  let v8 : BitVec 32 := Scalar.muli arg9 c32_i32
  let v9 : BitVec 32 := Scalar.addi v8 c0_i32_6
  let c64_i32_8 : BitVec 32 := 64#32
  let v14 : BitVec 32 := Scalar.muli v9 c64_i32_8
  let v15 : BitVec 32 := v14
  let v18 : Index := Scalar.indexCast v15
  let c0_11 : Index := 0#32
  ![0, v18.toNat, 0]
def k1_off2 (k1_t1 : Fin k1_t1_loop.trips) (c0_i32_6 : BitVec 32) : Fin 3 → Nat :=
  let c0_13 : Index := 0#32
  let c56_i32 : BitVec 32 := 56#32
  let c0_i32_7 : BitVec 32 := 0#32
  let c0_i32 : BitVec 32 := 0#32
  let c1_i32 : BitVec 32 := 1#32
  let arg9 : BitVec 32 := Scf.iv c0_i32 c1_i32 k1_t1
  let c32_i32 : BitVec 32 := 32#32
  let v8 : BitVec 32 := Scalar.muli arg9 c32_i32
  let v9 : BitVec 32 := Scalar.addi v8 c0_i32_6
  let c4_i32 : BitVec 32 := 4#32
  let v10 : BitVec 32 := Scalar.subi v9 c4_i32
  let v11 : BitVec 32 := Scalar.maxsi c0_i32_7 v10
  let v12 : BitVec 32 := Scalar.minsi c56_i32 v11
  let c64_i32_9 : BitVec 32 := 64#32
  let v16 : BitVec 32 := Scalar.muli v12 c64_i32_9
  let v17 : BitVec 32 := v16
  let v29 : Index := Scalar.indexCast v17
  let c0_14 : Index := 0#32
  ![0, v29.toNat, 0]
def k1_mult3 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_17 : BitVec 32 := 32#32
  let v35 : BitVec 32 := Scalar.muli arg9 c32_i32_17
  let c1_i32_18 : BitVec 32 := 1#32
  let v36 : BitVec 32 := Scalar.addi v35 c1_i32_18
  let c64_i32_22 : BitVec 32 := 64#32
  let v41 : BitVec 32 := Scalar.muli v36 c64_i32_22
  v41
def k1_mult4 (k1_t1 : Fin k1_t1_loop.trips) : BitVec 32 :=
  let c56_i32_21 : BitVec 32 := 56#32
  let c0_i32_20 : BitVec 32 := 0#32
  let c0_i32 : BitVec 32 := 0#32
  let c1_i32 : BitVec 32 := 1#32
  let arg9 : BitVec 32 := Scf.iv c0_i32 c1_i32 k1_t1
  let c32_i32_17 : BitVec 32 := 32#32
  let v35 : BitVec 32 := Scalar.muli arg9 c32_i32_17
  let c1_i32_18 : BitVec 32 := 1#32
  let v36 : BitVec 32 := Scalar.addi v35 c1_i32_18
  let c4_i32_19 : BitVec 32 := 4#32
  let v37 : BitVec 32 := Scalar.subi v36 c4_i32_19
  let v38 : BitVec 32 := Scalar.maxsi c0_i32_20 v37
  let v39 : BitVec 32 := Scalar.minsi c56_i32_21 v38
  let c64_i32_23 : BitVec 32 := 64#32
  let v43 : BitVec 32 := Scalar.muli v39 c64_i32_23
  v43
def k1_mult5 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_32 : BitVec 32 := 32#32
  let v62 : BitVec 32 := Scalar.muli arg9 c32_i32_32
  let c2_i32_33 : BitVec 32 := 2#32
  let v63 : BitVec 32 := Scalar.addi v62 c2_i32_33
  let c64_i32_37 : BitVec 32 := 64#32
  let v68 : BitVec 32 := Scalar.muli v63 c64_i32_37
  v68
def k1_mult6 (k1_t1 : Fin k1_t1_loop.trips) : BitVec 32 :=
  let c56_i32_36 : BitVec 32 := 56#32
  let c0_i32_35 : BitVec 32 := 0#32
  let c0_i32 : BitVec 32 := 0#32
  let c1_i32 : BitVec 32 := 1#32
  let arg9 : BitVec 32 := Scf.iv c0_i32 c1_i32 k1_t1
  let c32_i32_32 : BitVec 32 := 32#32
  let v62 : BitVec 32 := Scalar.muli arg9 c32_i32_32
  let c2_i32_33 : BitVec 32 := 2#32
  let v63 : BitVec 32 := Scalar.addi v62 c2_i32_33
  let c4_i32_34 : BitVec 32 := 4#32
  let v64 : BitVec 32 := Scalar.subi v63 c4_i32_34
  let v65 : BitVec 32 := Scalar.maxsi c0_i32_35 v64
  let v66 : BitVec 32 := Scalar.minsi c56_i32_36 v65
  let c64_i32_38 : BitVec 32 := 64#32
  let v70 : BitVec 32 := Scalar.muli v66 c64_i32_38
  v70
def k1_mult7 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_47 : BitVec 32 := 32#32
  let v89 : BitVec 32 := Scalar.muli arg9 c32_i32_47
  let c3_i32 : BitVec 32 := 3#32
  let v90 : BitVec 32 := Scalar.addi v89 c3_i32
  let c64_i32_51 : BitVec 32 := 64#32
  let v95 : BitVec 32 := Scalar.muli v90 c64_i32_51
  v95
def k1_mult8 (k1_t1 : Fin k1_t1_loop.trips) : BitVec 32 :=
  let c56_i32_50 : BitVec 32 := 56#32
  let c0_i32_49 : BitVec 32 := 0#32
  let c0_i32 : BitVec 32 := 0#32
  let c1_i32 : BitVec 32 := 1#32
  let arg9 : BitVec 32 := Scf.iv c0_i32 c1_i32 k1_t1
  let c32_i32_47 : BitVec 32 := 32#32
  let v89 : BitVec 32 := Scalar.muli arg9 c32_i32_47
  let c3_i32 : BitVec 32 := 3#32
  let v90 : BitVec 32 := Scalar.addi v89 c3_i32
  let c4_i32_48 : BitVec 32 := 4#32
  let v91 : BitVec 32 := Scalar.subi v90 c4_i32_48
  let v92 : BitVec 32 := Scalar.maxsi c0_i32_49 v91
  let v93 : BitVec 32 := Scalar.minsi c56_i32_50 v92
  let c64_i32_52 : BitVec 32 := 64#32
  let v97 : BitVec 32 := Scalar.muli v93 c64_i32_52
  v97
def k1_mult9 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_61 : BitVec 32 := 32#32
  let v116 : BitVec 32 := Scalar.muli arg9 c32_i32_61
  let c4_i32_62 : BitVec 32 := 4#32
  let v117 : BitVec 32 := Scalar.addi v116 c4_i32_62
  let c64_i32_66 : BitVec 32 := 64#32
  let v122 : BitVec 32 := Scalar.muli v117 c64_i32_66
  v122
def k1_mult10 (k1_t1 : Fin k1_t1_loop.trips) : BitVec 32 :=
  let c56_i32_65 : BitVec 32 := 56#32
  let c0_i32_64 : BitVec 32 := 0#32
  let c0_i32 : BitVec 32 := 0#32
  let c1_i32 : BitVec 32 := 1#32
  let arg9 : BitVec 32 := Scf.iv c0_i32 c1_i32 k1_t1
  let c32_i32_61 : BitVec 32 := 32#32
  let v116 : BitVec 32 := Scalar.muli arg9 c32_i32_61
  let c4_i32_62 : BitVec 32 := 4#32
  let v117 : BitVec 32 := Scalar.addi v116 c4_i32_62
  let c4_i32_63 : BitVec 32 := 4#32
  let v118 : BitVec 32 := Scalar.subi v117 c4_i32_63
  let v119 : BitVec 32 := Scalar.maxsi c0_i32_64 v118
  let v120 : BitVec 32 := Scalar.minsi c56_i32_65 v119
  let c64_i32_67 : BitVec 32 := 64#32
  let v124 : BitVec 32 := Scalar.muli v120 c64_i32_67
  v124
def k1_mult11 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_76 : BitVec 32 := 32#32
  let v143 : BitVec 32 := Scalar.muli arg9 c32_i32_76
  let c5_i32 : BitVec 32 := 5#32
  let v144 : BitVec 32 := Scalar.addi v143 c5_i32
  let c64_i32_80 : BitVec 32 := 64#32
  let v149 : BitVec 32 := Scalar.muli v144 c64_i32_80
  v149
def k1_mult12 (k1_t1 : Fin k1_t1_loop.trips) : BitVec 32 :=
  let c56_i32_79 : BitVec 32 := 56#32
  let c0_i32_78 : BitVec 32 := 0#32
  let c0_i32 : BitVec 32 := 0#32
  let c1_i32 : BitVec 32 := 1#32
  let arg9 : BitVec 32 := Scf.iv c0_i32 c1_i32 k1_t1
  let c32_i32_76 : BitVec 32 := 32#32
  let v143 : BitVec 32 := Scalar.muli arg9 c32_i32_76
  let c5_i32 : BitVec 32 := 5#32
  let v144 : BitVec 32 := Scalar.addi v143 c5_i32
  let c4_i32_77 : BitVec 32 := 4#32
  let v145 : BitVec 32 := Scalar.subi v144 c4_i32_77
  let v146 : BitVec 32 := Scalar.maxsi c0_i32_78 v145
  let v147 : BitVec 32 := Scalar.minsi c56_i32_79 v146
  let c64_i32_81 : BitVec 32 := 64#32
  let v151 : BitVec 32 := Scalar.muli v147 c64_i32_81
  v151
def k1_mult13 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_90 : BitVec 32 := 32#32
  let v170 : BitVec 32 := Scalar.muli arg9 c32_i32_90
  let c6_i32 : BitVec 32 := 6#32
  let v171 : BitVec 32 := Scalar.addi v170 c6_i32
  let c64_i32_94 : BitVec 32 := 64#32
  let v176 : BitVec 32 := Scalar.muli v171 c64_i32_94
  v176
def k1_mult14 (k1_t1 : Fin k1_t1_loop.trips) : BitVec 32 :=
  let c56_i32_93 : BitVec 32 := 56#32
  let c0_i32_92 : BitVec 32 := 0#32
  let c0_i32 : BitVec 32 := 0#32
  let c1_i32 : BitVec 32 := 1#32
  let arg9 : BitVec 32 := Scf.iv c0_i32 c1_i32 k1_t1
  let c32_i32_90 : BitVec 32 := 32#32
  let v170 : BitVec 32 := Scalar.muli arg9 c32_i32_90
  let c6_i32 : BitVec 32 := 6#32
  let v171 : BitVec 32 := Scalar.addi v170 c6_i32
  let c4_i32_91 : BitVec 32 := 4#32
  let v172 : BitVec 32 := Scalar.subi v171 c4_i32_91
  let v173 : BitVec 32 := Scalar.maxsi c0_i32_92 v172
  let v174 : BitVec 32 := Scalar.minsi c56_i32_93 v173
  let c64_i32_95 : BitVec 32 := 64#32
  let v178 : BitVec 32 := Scalar.muli v174 c64_i32_95
  v178
def k1_mult15 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_104 : BitVec 32 := 32#32
  let v197 : BitVec 32 := Scalar.muli arg9 c32_i32_104
  let c7_i32 : BitVec 32 := 7#32
  let v198 : BitVec 32 := Scalar.addi v197 c7_i32
  let c64_i32_108 : BitVec 32 := 64#32
  let v203 : BitVec 32 := Scalar.muli v198 c64_i32_108
  v203
def k1_mult16 (k1_t1 : Fin k1_t1_loop.trips) : BitVec 32 :=
  let c56_i32_107 : BitVec 32 := 56#32
  let c0_i32_106 : BitVec 32 := 0#32
  let c0_i32 : BitVec 32 := 0#32
  let c1_i32 : BitVec 32 := 1#32
  let arg9 : BitVec 32 := Scf.iv c0_i32 c1_i32 k1_t1
  let c32_i32_104 : BitVec 32 := 32#32
  let v197 : BitVec 32 := Scalar.muli arg9 c32_i32_104
  let c7_i32 : BitVec 32 := 7#32
  let v198 : BitVec 32 := Scalar.addi v197 c7_i32
  let c4_i32_105 : BitVec 32 := 4#32
  let v199 : BitVec 32 := Scalar.subi v198 c4_i32_105
  let v200 : BitVec 32 := Scalar.maxsi c0_i32_106 v199
  let v201 : BitVec 32 := Scalar.minsi c56_i32_107 v200
  let c64_i32_109 : BitVec 32 := 64#32
  let v205 : BitVec 32 := Scalar.muli v201 c64_i32_109
  v205
def k1_mult17 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_118 : BitVec 32 := 32#32
  let v224 : BitVec 32 := Scalar.muli arg9 c32_i32_118
  let c8_i32 : BitVec 32 := 8#32
  let v225 : BitVec 32 := Scalar.addi v224 c8_i32
  let c64_i32_122 : BitVec 32 := 64#32
  let v230 : BitVec 32 := Scalar.muli v225 c64_i32_122
  v230
def k1_mult18 (k1_t1 : Fin k1_t1_loop.trips) : BitVec 32 :=
  let c56_i32_121 : BitVec 32 := 56#32
  let c0_i32_120 : BitVec 32 := 0#32
  let c0_i32 : BitVec 32 := 0#32
  let c1_i32 : BitVec 32 := 1#32
  let arg9 : BitVec 32 := Scf.iv c0_i32 c1_i32 k1_t1
  let c32_i32_118 : BitVec 32 := 32#32
  let v224 : BitVec 32 := Scalar.muli arg9 c32_i32_118
  let c8_i32 : BitVec 32 := 8#32
  let v225 : BitVec 32 := Scalar.addi v224 c8_i32
  let c4_i32_119 : BitVec 32 := 4#32
  let v226 : BitVec 32 := Scalar.subi v225 c4_i32_119
  let v227 : BitVec 32 := Scalar.maxsi c0_i32_120 v226
  let v228 : BitVec 32 := Scalar.minsi c56_i32_121 v227
  let c64_i32_123 : BitVec 32 := 64#32
  let v232 : BitVec 32 := Scalar.muli v228 c64_i32_123
  v232
def k1_mult19 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_132 : BitVec 32 := 32#32
  let v251 : BitVec 32 := Scalar.muli arg9 c32_i32_132
  let c9_i32 : BitVec 32 := 9#32
  let v252 : BitVec 32 := Scalar.addi v251 c9_i32
  let c64_i32_136 : BitVec 32 := 64#32
  let v257 : BitVec 32 := Scalar.muli v252 c64_i32_136
  v257
def k1_mult20 (k1_t1 : Fin k1_t1_loop.trips) : BitVec 32 :=
  let c56_i32_135 : BitVec 32 := 56#32
  let c0_i32_134 : BitVec 32 := 0#32
  let c0_i32 : BitVec 32 := 0#32
  let c1_i32 : BitVec 32 := 1#32
  let arg9 : BitVec 32 := Scf.iv c0_i32 c1_i32 k1_t1
  let c32_i32_132 : BitVec 32 := 32#32
  let v251 : BitVec 32 := Scalar.muli arg9 c32_i32_132
  let c9_i32 : BitVec 32 := 9#32
  let v252 : BitVec 32 := Scalar.addi v251 c9_i32
  let c4_i32_133 : BitVec 32 := 4#32
  let v253 : BitVec 32 := Scalar.subi v252 c4_i32_133
  let v254 : BitVec 32 := Scalar.maxsi c0_i32_134 v253
  let v255 : BitVec 32 := Scalar.minsi c56_i32_135 v254
  let c64_i32_137 : BitVec 32 := 64#32
  let v259 : BitVec 32 := Scalar.muli v255 c64_i32_137
  v259
def k1_mult21 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_146 : BitVec 32 := 32#32
  let v278 : BitVec 32 := Scalar.muli arg9 c32_i32_146
  let c10_i32 : BitVec 32 := 10#32
  let v279 : BitVec 32 := Scalar.addi v278 c10_i32
  let c64_i32_150 : BitVec 32 := 64#32
  let v284 : BitVec 32 := Scalar.muli v279 c64_i32_150
  v284
def k1_mult22 (k1_t1 : Fin k1_t1_loop.trips) : BitVec 32 :=
  let c56_i32_149 : BitVec 32 := 56#32
  let c0_i32_148 : BitVec 32 := 0#32
  let c0_i32 : BitVec 32 := 0#32
  let c1_i32 : BitVec 32 := 1#32
  let arg9 : BitVec 32 := Scf.iv c0_i32 c1_i32 k1_t1
  let c32_i32_146 : BitVec 32 := 32#32
  let v278 : BitVec 32 := Scalar.muli arg9 c32_i32_146
  let c10_i32 : BitVec 32 := 10#32
  let v279 : BitVec 32 := Scalar.addi v278 c10_i32
  let c4_i32_147 : BitVec 32 := 4#32
  let v280 : BitVec 32 := Scalar.subi v279 c4_i32_147
  let v281 : BitVec 32 := Scalar.maxsi c0_i32_148 v280
  let v282 : BitVec 32 := Scalar.minsi c56_i32_149 v281
  let c64_i32_151 : BitVec 32 := 64#32
  let v286 : BitVec 32 := Scalar.muli v282 c64_i32_151
  v286
def k1_mult23 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_160 : BitVec 32 := 32#32
  let v305 : BitVec 32 := Scalar.muli arg9 c32_i32_160
  let c11_i32 : BitVec 32 := 11#32
  let v306 : BitVec 32 := Scalar.addi v305 c11_i32
  let c64_i32_164 : BitVec 32 := 64#32
  let v311 : BitVec 32 := Scalar.muli v306 c64_i32_164
  v311
def k1_mult24 (k1_t1 : Fin k1_t1_loop.trips) : BitVec 32 :=
  let c56_i32_163 : BitVec 32 := 56#32
  let c0_i32_162 : BitVec 32 := 0#32
  let c0_i32 : BitVec 32 := 0#32
  let c1_i32 : BitVec 32 := 1#32
  let arg9 : BitVec 32 := Scf.iv c0_i32 c1_i32 k1_t1
  let c32_i32_160 : BitVec 32 := 32#32
  let v305 : BitVec 32 := Scalar.muli arg9 c32_i32_160
  let c11_i32 : BitVec 32 := 11#32
  let v306 : BitVec 32 := Scalar.addi v305 c11_i32
  let c4_i32_161 : BitVec 32 := 4#32
  let v307 : BitVec 32 := Scalar.subi v306 c4_i32_161
  let v308 : BitVec 32 := Scalar.maxsi c0_i32_162 v307
  let v309 : BitVec 32 := Scalar.minsi c56_i32_163 v308
  let c64_i32_165 : BitVec 32 := 64#32
  let v313 : BitVec 32 := Scalar.muli v309 c64_i32_165
  v313
def k1_mult25 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_174 : BitVec 32 := 32#32
  let v332 : BitVec 32 := Scalar.muli arg9 c32_i32_174
  let c12_i32 : BitVec 32 := 12#32
  let v333 : BitVec 32 := Scalar.addi v332 c12_i32
  let c64_i32_178 : BitVec 32 := 64#32
  let v338 : BitVec 32 := Scalar.muli v333 c64_i32_178
  v338
def k1_mult26 (k1_t1 : Fin k1_t1_loop.trips) : BitVec 32 :=
  let c56_i32_177 : BitVec 32 := 56#32
  let c0_i32_176 : BitVec 32 := 0#32
  let c0_i32 : BitVec 32 := 0#32
  let c1_i32 : BitVec 32 := 1#32
  let arg9 : BitVec 32 := Scf.iv c0_i32 c1_i32 k1_t1
  let c32_i32_174 : BitVec 32 := 32#32
  let v332 : BitVec 32 := Scalar.muli arg9 c32_i32_174
  let c12_i32 : BitVec 32 := 12#32
  let v333 : BitVec 32 := Scalar.addi v332 c12_i32
  let c4_i32_175 : BitVec 32 := 4#32
  let v334 : BitVec 32 := Scalar.subi v333 c4_i32_175
  let v335 : BitVec 32 := Scalar.maxsi c0_i32_176 v334
  let v336 : BitVec 32 := Scalar.minsi c56_i32_177 v335
  let c64_i32_179 : BitVec 32 := 64#32
  let v340 : BitVec 32 := Scalar.muli v336 c64_i32_179
  v340
def k1_mult27 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_188 : BitVec 32 := 32#32
  let v359 : BitVec 32 := Scalar.muli arg9 c32_i32_188
  let c13_i32 : BitVec 32 := 13#32
  let v360 : BitVec 32 := Scalar.addi v359 c13_i32
  let c64_i32_192 : BitVec 32 := 64#32
  let v365 : BitVec 32 := Scalar.muli v360 c64_i32_192
  v365
def k1_mult28 (k1_t1 : Fin k1_t1_loop.trips) : BitVec 32 :=
  let c56_i32_191 : BitVec 32 := 56#32
  let c0_i32_190 : BitVec 32 := 0#32
  let c0_i32 : BitVec 32 := 0#32
  let c1_i32 : BitVec 32 := 1#32
  let arg9 : BitVec 32 := Scf.iv c0_i32 c1_i32 k1_t1
  let c32_i32_188 : BitVec 32 := 32#32
  let v359 : BitVec 32 := Scalar.muli arg9 c32_i32_188
  let c13_i32 : BitVec 32 := 13#32
  let v360 : BitVec 32 := Scalar.addi v359 c13_i32
  let c4_i32_189 : BitVec 32 := 4#32
  let v361 : BitVec 32 := Scalar.subi v360 c4_i32_189
  let v362 : BitVec 32 := Scalar.maxsi c0_i32_190 v361
  let v363 : BitVec 32 := Scalar.minsi c56_i32_191 v362
  let c64_i32_193 : BitVec 32 := 64#32
  let v367 : BitVec 32 := Scalar.muli v363 c64_i32_193
  v367
def k1_mult29 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_202 : BitVec 32 := 32#32
  let v386 : BitVec 32 := Scalar.muli arg9 c32_i32_202
  let c14_i32 : BitVec 32 := 14#32
  let v387 : BitVec 32 := Scalar.addi v386 c14_i32
  let c64_i32_206 : BitVec 32 := 64#32
  let v392 : BitVec 32 := Scalar.muli v387 c64_i32_206
  v392
def k1_mult30 (k1_t1 : Fin k1_t1_loop.trips) : BitVec 32 :=
  let c56_i32_205 : BitVec 32 := 56#32
  let c0_i32_204 : BitVec 32 := 0#32
  let c0_i32 : BitVec 32 := 0#32
  let c1_i32 : BitVec 32 := 1#32
  let arg9 : BitVec 32 := Scf.iv c0_i32 c1_i32 k1_t1
  let c32_i32_202 : BitVec 32 := 32#32
  let v386 : BitVec 32 := Scalar.muli arg9 c32_i32_202
  let c14_i32 : BitVec 32 := 14#32
  let v387 : BitVec 32 := Scalar.addi v386 c14_i32
  let c4_i32_203 : BitVec 32 := 4#32
  let v388 : BitVec 32 := Scalar.subi v387 c4_i32_203
  let v389 : BitVec 32 := Scalar.maxsi c0_i32_204 v388
  let v390 : BitVec 32 := Scalar.minsi c56_i32_205 v389
  let c64_i32_207 : BitVec 32 := 64#32
  let v394 : BitVec 32 := Scalar.muli v390 c64_i32_207
  v394
def k1_mult31 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_216 : BitVec 32 := 32#32
  let v413 : BitVec 32 := Scalar.muli arg9 c32_i32_216
  let c15_i32 : BitVec 32 := 15#32
  let v414 : BitVec 32 := Scalar.addi v413 c15_i32
  let c64_i32_220 : BitVec 32 := 64#32
  let v419 : BitVec 32 := Scalar.muli v414 c64_i32_220
  v419
def k1_mult32 (k1_t1 : Fin k1_t1_loop.trips) : BitVec 32 :=
  let c56_i32_219 : BitVec 32 := 56#32
  let c0_i32_218 : BitVec 32 := 0#32
  let c0_i32 : BitVec 32 := 0#32
  let c1_i32 : BitVec 32 := 1#32
  let arg9 : BitVec 32 := Scf.iv c0_i32 c1_i32 k1_t1
  let c32_i32_216 : BitVec 32 := 32#32
  let v413 : BitVec 32 := Scalar.muli arg9 c32_i32_216
  let c15_i32 : BitVec 32 := 15#32
  let v414 : BitVec 32 := Scalar.addi v413 c15_i32
  let c4_i32_217 : BitVec 32 := 4#32
  let v415 : BitVec 32 := Scalar.subi v414 c4_i32_217
  let v416 : BitVec 32 := Scalar.maxsi c0_i32_218 v415
  let v417 : BitVec 32 := Scalar.minsi c56_i32_219 v416
  let c64_i32_221 : BitVec 32 := 64#32
  let v421 : BitVec 32 := Scalar.muli v417 c64_i32_221
  v421
def k1_mult33 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_230 : BitVec 32 := 32#32
  let v440 : BitVec 32 := Scalar.muli arg9 c32_i32_230
  let c16_i32 : BitVec 32 := 16#32
  let v441 : BitVec 32 := Scalar.addi v440 c16_i32
  let c64_i32_234 : BitVec 32 := 64#32
  let v446 : BitVec 32 := Scalar.muli v441 c64_i32_234
  v446
def k1_mult34 (k1_t1 : Fin k1_t1_loop.trips) : BitVec 32 :=
  let c56_i32_233 : BitVec 32 := 56#32
  let c0_i32_232 : BitVec 32 := 0#32
  let c0_i32 : BitVec 32 := 0#32
  let c1_i32 : BitVec 32 := 1#32
  let arg9 : BitVec 32 := Scf.iv c0_i32 c1_i32 k1_t1
  let c32_i32_230 : BitVec 32 := 32#32
  let v440 : BitVec 32 := Scalar.muli arg9 c32_i32_230
  let c16_i32 : BitVec 32 := 16#32
  let v441 : BitVec 32 := Scalar.addi v440 c16_i32
  let c4_i32_231 : BitVec 32 := 4#32
  let v442 : BitVec 32 := Scalar.subi v441 c4_i32_231
  let v443 : BitVec 32 := Scalar.maxsi c0_i32_232 v442
  let v444 : BitVec 32 := Scalar.minsi c56_i32_233 v443
  let c64_i32_235 : BitVec 32 := 64#32
  let v448 : BitVec 32 := Scalar.muli v444 c64_i32_235
  v448
def k1_mult35 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_244 : BitVec 32 := 32#32
  let v467 : BitVec 32 := Scalar.muli arg9 c32_i32_244
  let c17_i32 : BitVec 32 := 17#32
  let v468 : BitVec 32 := Scalar.addi v467 c17_i32
  let c64_i32_248 : BitVec 32 := 64#32
  let v473 : BitVec 32 := Scalar.muli v468 c64_i32_248
  v473
def k1_mult36 (k1_t1 : Fin k1_t1_loop.trips) : BitVec 32 :=
  let c56_i32_247 : BitVec 32 := 56#32
  let c0_i32_246 : BitVec 32 := 0#32
  let c0_i32 : BitVec 32 := 0#32
  let c1_i32 : BitVec 32 := 1#32
  let arg9 : BitVec 32 := Scf.iv c0_i32 c1_i32 k1_t1
  let c32_i32_244 : BitVec 32 := 32#32
  let v467 : BitVec 32 := Scalar.muli arg9 c32_i32_244
  let c17_i32 : BitVec 32 := 17#32
  let v468 : BitVec 32 := Scalar.addi v467 c17_i32
  let c4_i32_245 : BitVec 32 := 4#32
  let v469 : BitVec 32 := Scalar.subi v468 c4_i32_245
  let v470 : BitVec 32 := Scalar.maxsi c0_i32_246 v469
  let v471 : BitVec 32 := Scalar.minsi c56_i32_247 v470
  let c64_i32_249 : BitVec 32 := 64#32
  let v475 : BitVec 32 := Scalar.muli v471 c64_i32_249
  v475
def k1_mult37 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_258 : BitVec 32 := 32#32
  let v494 : BitVec 32 := Scalar.muli arg9 c32_i32_258
  let c18_i32 : BitVec 32 := 18#32
  let v495 : BitVec 32 := Scalar.addi v494 c18_i32
  let c64_i32_262 : BitVec 32 := 64#32
  let v500 : BitVec 32 := Scalar.muli v495 c64_i32_262
  v500
def k1_mult38 (k1_t1 : Fin k1_t1_loop.trips) : BitVec 32 :=
  let c56_i32_261 : BitVec 32 := 56#32
  let c0_i32_260 : BitVec 32 := 0#32
  let c0_i32 : BitVec 32 := 0#32
  let c1_i32 : BitVec 32 := 1#32
  let arg9 : BitVec 32 := Scf.iv c0_i32 c1_i32 k1_t1
  let c32_i32_258 : BitVec 32 := 32#32
  let v494 : BitVec 32 := Scalar.muli arg9 c32_i32_258
  let c18_i32 : BitVec 32 := 18#32
  let v495 : BitVec 32 := Scalar.addi v494 c18_i32
  let c4_i32_259 : BitVec 32 := 4#32
  let v496 : BitVec 32 := Scalar.subi v495 c4_i32_259
  let v497 : BitVec 32 := Scalar.maxsi c0_i32_260 v496
  let v498 : BitVec 32 := Scalar.minsi c56_i32_261 v497
  let c64_i32_263 : BitVec 32 := 64#32
  let v502 : BitVec 32 := Scalar.muli v498 c64_i32_263
  v502
def k1_mult39 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_272 : BitVec 32 := 32#32
  let v521 : BitVec 32 := Scalar.muli arg9 c32_i32_272
  let c19_i32 : BitVec 32 := 19#32
  let v522 : BitVec 32 := Scalar.addi v521 c19_i32
  let c64_i32_276 : BitVec 32 := 64#32
  let v527 : BitVec 32 := Scalar.muli v522 c64_i32_276
  v527
def k1_mult40 (k1_t1 : Fin k1_t1_loop.trips) : BitVec 32 :=
  let c56_i32_275 : BitVec 32 := 56#32
  let c0_i32_274 : BitVec 32 := 0#32
  let c0_i32 : BitVec 32 := 0#32
  let c1_i32 : BitVec 32 := 1#32
  let arg9 : BitVec 32 := Scf.iv c0_i32 c1_i32 k1_t1
  let c32_i32_272 : BitVec 32 := 32#32
  let v521 : BitVec 32 := Scalar.muli arg9 c32_i32_272
  let c19_i32 : BitVec 32 := 19#32
  let v522 : BitVec 32 := Scalar.addi v521 c19_i32
  let c4_i32_273 : BitVec 32 := 4#32
  let v523 : BitVec 32 := Scalar.subi v522 c4_i32_273
  let v524 : BitVec 32 := Scalar.maxsi c0_i32_274 v523
  let v525 : BitVec 32 := Scalar.minsi c56_i32_275 v524
  let c64_i32_277 : BitVec 32 := 64#32
  let v529 : BitVec 32 := Scalar.muli v525 c64_i32_277
  v529
def k1_mult41 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_286 : BitVec 32 := 32#32
  let v548 : BitVec 32 := Scalar.muli arg9 c32_i32_286
  let c20_i32 : BitVec 32 := 20#32
  let v549 : BitVec 32 := Scalar.addi v548 c20_i32
  let c64_i32_290 : BitVec 32 := 64#32
  let v554 : BitVec 32 := Scalar.muli v549 c64_i32_290
  v554
def k1_mult42 (k1_t1 : Fin k1_t1_loop.trips) : BitVec 32 :=
  let c56_i32_289 : BitVec 32 := 56#32
  let c0_i32_288 : BitVec 32 := 0#32
  let c0_i32 : BitVec 32 := 0#32
  let c1_i32 : BitVec 32 := 1#32
  let arg9 : BitVec 32 := Scf.iv c0_i32 c1_i32 k1_t1
  let c32_i32_286 : BitVec 32 := 32#32
  let v548 : BitVec 32 := Scalar.muli arg9 c32_i32_286
  let c20_i32 : BitVec 32 := 20#32
  let v549 : BitVec 32 := Scalar.addi v548 c20_i32
  let c4_i32_287 : BitVec 32 := 4#32
  let v550 : BitVec 32 := Scalar.subi v549 c4_i32_287
  let v551 : BitVec 32 := Scalar.maxsi c0_i32_288 v550
  let v552 : BitVec 32 := Scalar.minsi c56_i32_289 v551
  let c64_i32_291 : BitVec 32 := 64#32
  let v556 : BitVec 32 := Scalar.muli v552 c64_i32_291
  v556
def k1_mult43 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_300 : BitVec 32 := 32#32
  let v575 : BitVec 32 := Scalar.muli arg9 c32_i32_300
  let c21_i32 : BitVec 32 := 21#32
  let v576 : BitVec 32 := Scalar.addi v575 c21_i32
  let c64_i32_304 : BitVec 32 := 64#32
  let v581 : BitVec 32 := Scalar.muli v576 c64_i32_304
  v581
def k1_mult44 (k1_t1 : Fin k1_t1_loop.trips) : BitVec 32 :=
  let c56_i32_303 : BitVec 32 := 56#32
  let c0_i32_302 : BitVec 32 := 0#32
  let c0_i32 : BitVec 32 := 0#32
  let c1_i32 : BitVec 32 := 1#32
  let arg9 : BitVec 32 := Scf.iv c0_i32 c1_i32 k1_t1
  let c32_i32_300 : BitVec 32 := 32#32
  let v575 : BitVec 32 := Scalar.muli arg9 c32_i32_300
  let c21_i32 : BitVec 32 := 21#32
  let v576 : BitVec 32 := Scalar.addi v575 c21_i32
  let c4_i32_301 : BitVec 32 := 4#32
  let v577 : BitVec 32 := Scalar.subi v576 c4_i32_301
  let v578 : BitVec 32 := Scalar.maxsi c0_i32_302 v577
  let v579 : BitVec 32 := Scalar.minsi c56_i32_303 v578
  let c64_i32_305 : BitVec 32 := 64#32
  let v583 : BitVec 32 := Scalar.muli v579 c64_i32_305
  v583
def k1_mult45 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_314 : BitVec 32 := 32#32
  let v602 : BitVec 32 := Scalar.muli arg9 c32_i32_314
  let c22_i32 : BitVec 32 := 22#32
  let v603 : BitVec 32 := Scalar.addi v602 c22_i32
  let c64_i32_318 : BitVec 32 := 64#32
  let v608 : BitVec 32 := Scalar.muli v603 c64_i32_318
  v608
def k1_mult46 (k1_t1 : Fin k1_t1_loop.trips) : BitVec 32 :=
  let c56_i32_317 : BitVec 32 := 56#32
  let c0_i32_316 : BitVec 32 := 0#32
  let c0_i32 : BitVec 32 := 0#32
  let c1_i32 : BitVec 32 := 1#32
  let arg9 : BitVec 32 := Scf.iv c0_i32 c1_i32 k1_t1
  let c32_i32_314 : BitVec 32 := 32#32
  let v602 : BitVec 32 := Scalar.muli arg9 c32_i32_314
  let c22_i32 : BitVec 32 := 22#32
  let v603 : BitVec 32 := Scalar.addi v602 c22_i32
  let c4_i32_315 : BitVec 32 := 4#32
  let v604 : BitVec 32 := Scalar.subi v603 c4_i32_315
  let v605 : BitVec 32 := Scalar.maxsi c0_i32_316 v604
  let v606 : BitVec 32 := Scalar.minsi c56_i32_317 v605
  let c64_i32_319 : BitVec 32 := 64#32
  let v610 : BitVec 32 := Scalar.muli v606 c64_i32_319
  v610
def k1_mult47 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_328 : BitVec 32 := 32#32
  let v629 : BitVec 32 := Scalar.muli arg9 c32_i32_328
  let c23_i32 : BitVec 32 := 23#32
  let v630 : BitVec 32 := Scalar.addi v629 c23_i32
  let c64_i32_332 : BitVec 32 := 64#32
  let v635 : BitVec 32 := Scalar.muli v630 c64_i32_332
  v635
def k1_mult48 (k1_t1 : Fin k1_t1_loop.trips) : BitVec 32 :=
  let c56_i32_331 : BitVec 32 := 56#32
  let c0_i32_330 : BitVec 32 := 0#32
  let c0_i32 : BitVec 32 := 0#32
  let c1_i32 : BitVec 32 := 1#32
  let arg9 : BitVec 32 := Scf.iv c0_i32 c1_i32 k1_t1
  let c32_i32_328 : BitVec 32 := 32#32
  let v629 : BitVec 32 := Scalar.muli arg9 c32_i32_328
  let c23_i32 : BitVec 32 := 23#32
  let v630 : BitVec 32 := Scalar.addi v629 c23_i32
  let c4_i32_329 : BitVec 32 := 4#32
  let v631 : BitVec 32 := Scalar.subi v630 c4_i32_329
  let v632 : BitVec 32 := Scalar.maxsi c0_i32_330 v631
  let v633 : BitVec 32 := Scalar.minsi c56_i32_331 v632
  let c64_i32_333 : BitVec 32 := 64#32
  let v637 : BitVec 32 := Scalar.muli v633 c64_i32_333
  v637
def k1_mult49 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_342 : BitVec 32 := 32#32
  let v656 : BitVec 32 := Scalar.muli arg9 c32_i32_342
  let c24_i32 : BitVec 32 := 24#32
  let v657 : BitVec 32 := Scalar.addi v656 c24_i32
  let c64_i32_346 : BitVec 32 := 64#32
  let v662 : BitVec 32 := Scalar.muli v657 c64_i32_346
  v662
def k1_mult50 (k1_t1 : Fin k1_t1_loop.trips) : BitVec 32 :=
  let c56_i32_345 : BitVec 32 := 56#32
  let c0_i32_344 : BitVec 32 := 0#32
  let c0_i32 : BitVec 32 := 0#32
  let c1_i32 : BitVec 32 := 1#32
  let arg9 : BitVec 32 := Scf.iv c0_i32 c1_i32 k1_t1
  let c32_i32_342 : BitVec 32 := 32#32
  let v656 : BitVec 32 := Scalar.muli arg9 c32_i32_342
  let c24_i32 : BitVec 32 := 24#32
  let v657 : BitVec 32 := Scalar.addi v656 c24_i32
  let c4_i32_343 : BitVec 32 := 4#32
  let v658 : BitVec 32 := Scalar.subi v657 c4_i32_343
  let v659 : BitVec 32 := Scalar.maxsi c0_i32_344 v658
  let v660 : BitVec 32 := Scalar.minsi c56_i32_345 v659
  let c64_i32_347 : BitVec 32 := 64#32
  let v664 : BitVec 32 := Scalar.muli v660 c64_i32_347
  v664
def k1_mult51 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_356 : BitVec 32 := 32#32
  let v683 : BitVec 32 := Scalar.muli arg9 c32_i32_356
  let c25_i32 : BitVec 32 := 25#32
  let v684 : BitVec 32 := Scalar.addi v683 c25_i32
  let c64_i32_360 : BitVec 32 := 64#32
  let v689 : BitVec 32 := Scalar.muli v684 c64_i32_360
  v689
def k1_mult52 (k1_t1 : Fin k1_t1_loop.trips) : BitVec 32 :=
  let c56_i32_359 : BitVec 32 := 56#32
  let c0_i32_358 : BitVec 32 := 0#32
  let c0_i32 : BitVec 32 := 0#32
  let c1_i32 : BitVec 32 := 1#32
  let arg9 : BitVec 32 := Scf.iv c0_i32 c1_i32 k1_t1
  let c32_i32_356 : BitVec 32 := 32#32
  let v683 : BitVec 32 := Scalar.muli arg9 c32_i32_356
  let c25_i32 : BitVec 32 := 25#32
  let v684 : BitVec 32 := Scalar.addi v683 c25_i32
  let c4_i32_357 : BitVec 32 := 4#32
  let v685 : BitVec 32 := Scalar.subi v684 c4_i32_357
  let v686 : BitVec 32 := Scalar.maxsi c0_i32_358 v685
  let v687 : BitVec 32 := Scalar.minsi c56_i32_359 v686
  let c64_i32_361 : BitVec 32 := 64#32
  let v691 : BitVec 32 := Scalar.muli v687 c64_i32_361
  v691
def k1_mult53 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_370 : BitVec 32 := 32#32
  let v710 : BitVec 32 := Scalar.muli arg9 c32_i32_370
  let c26_i32 : BitVec 32 := 26#32
  let v711 : BitVec 32 := Scalar.addi v710 c26_i32
  let c64_i32_374 : BitVec 32 := 64#32
  let v716 : BitVec 32 := Scalar.muli v711 c64_i32_374
  v716
def k1_mult54 (k1_t1 : Fin k1_t1_loop.trips) : BitVec 32 :=
  let c56_i32_373 : BitVec 32 := 56#32
  let c0_i32_372 : BitVec 32 := 0#32
  let c0_i32 : BitVec 32 := 0#32
  let c1_i32 : BitVec 32 := 1#32
  let arg9 : BitVec 32 := Scf.iv c0_i32 c1_i32 k1_t1
  let c32_i32_370 : BitVec 32 := 32#32
  let v710 : BitVec 32 := Scalar.muli arg9 c32_i32_370
  let c26_i32 : BitVec 32 := 26#32
  let v711 : BitVec 32 := Scalar.addi v710 c26_i32
  let c4_i32_371 : BitVec 32 := 4#32
  let v712 : BitVec 32 := Scalar.subi v711 c4_i32_371
  let v713 : BitVec 32 := Scalar.maxsi c0_i32_372 v712
  let v714 : BitVec 32 := Scalar.minsi c56_i32_373 v713
  let c64_i32_375 : BitVec 32 := 64#32
  let v718 : BitVec 32 := Scalar.muli v714 c64_i32_375
  v718
def k1_mult55 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_384 : BitVec 32 := 32#32
  let v737 : BitVec 32 := Scalar.muli arg9 c32_i32_384
  let c27_i32 : BitVec 32 := 27#32
  let v738 : BitVec 32 := Scalar.addi v737 c27_i32
  let c64_i32_388 : BitVec 32 := 64#32
  let v743 : BitVec 32 := Scalar.muli v738 c64_i32_388
  v743
def k1_mult56 (k1_t1 : Fin k1_t1_loop.trips) : BitVec 32 :=
  let c56_i32_387 : BitVec 32 := 56#32
  let c0_i32_386 : BitVec 32 := 0#32
  let c0_i32 : BitVec 32 := 0#32
  let c1_i32 : BitVec 32 := 1#32
  let arg9 : BitVec 32 := Scf.iv c0_i32 c1_i32 k1_t1
  let c32_i32_384 : BitVec 32 := 32#32
  let v737 : BitVec 32 := Scalar.muli arg9 c32_i32_384
  let c27_i32 : BitVec 32 := 27#32
  let v738 : BitVec 32 := Scalar.addi v737 c27_i32
  let c4_i32_385 : BitVec 32 := 4#32
  let v739 : BitVec 32 := Scalar.subi v738 c4_i32_385
  let v740 : BitVec 32 := Scalar.maxsi c0_i32_386 v739
  let v741 : BitVec 32 := Scalar.minsi c56_i32_387 v740
  let c64_i32_389 : BitVec 32 := 64#32
  let v745 : BitVec 32 := Scalar.muli v741 c64_i32_389
  v745
def k1_mult57 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_398 : BitVec 32 := 32#32
  let v764 : BitVec 32 := Scalar.muli arg9 c32_i32_398
  let c28_i32 : BitVec 32 := 28#32
  let v765 : BitVec 32 := Scalar.addi v764 c28_i32
  let c64_i32_402 : BitVec 32 := 64#32
  let v770 : BitVec 32 := Scalar.muli v765 c64_i32_402
  v770
def k1_mult58 (k1_t1 : Fin k1_t1_loop.trips) : BitVec 32 :=
  let c56_i32_401 : BitVec 32 := 56#32
  let c0_i32_400 : BitVec 32 := 0#32
  let c0_i32 : BitVec 32 := 0#32
  let c1_i32 : BitVec 32 := 1#32
  let arg9 : BitVec 32 := Scf.iv c0_i32 c1_i32 k1_t1
  let c32_i32_398 : BitVec 32 := 32#32
  let v764 : BitVec 32 := Scalar.muli arg9 c32_i32_398
  let c28_i32 : BitVec 32 := 28#32
  let v765 : BitVec 32 := Scalar.addi v764 c28_i32
  let c4_i32_399 : BitVec 32 := 4#32
  let v766 : BitVec 32 := Scalar.subi v765 c4_i32_399
  let v767 : BitVec 32 := Scalar.maxsi c0_i32_400 v766
  let v768 : BitVec 32 := Scalar.minsi c56_i32_401 v767
  let c64_i32_403 : BitVec 32 := 64#32
  let v772 : BitVec 32 := Scalar.muli v768 c64_i32_403
  v772
def k1_mult59 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_412 : BitVec 32 := 32#32
  let v791 : BitVec 32 := Scalar.muli arg9 c32_i32_412
  let c29_i32 : BitVec 32 := 29#32
  let v792 : BitVec 32 := Scalar.addi v791 c29_i32
  let c64_i32_416 : BitVec 32 := 64#32
  let v797 : BitVec 32 := Scalar.muli v792 c64_i32_416
  v797
def k1_mult60 (k1_t1 : Fin k1_t1_loop.trips) : BitVec 32 :=
  let c56_i32_415 : BitVec 32 := 56#32
  let c0_i32_414 : BitVec 32 := 0#32
  let c0_i32 : BitVec 32 := 0#32
  let c1_i32 : BitVec 32 := 1#32
  let arg9 : BitVec 32 := Scf.iv c0_i32 c1_i32 k1_t1
  let c32_i32_412 : BitVec 32 := 32#32
  let v791 : BitVec 32 := Scalar.muli arg9 c32_i32_412
  let c29_i32 : BitVec 32 := 29#32
  let v792 : BitVec 32 := Scalar.addi v791 c29_i32
  let c4_i32_413 : BitVec 32 := 4#32
  let v793 : BitVec 32 := Scalar.subi v792 c4_i32_413
  let v794 : BitVec 32 := Scalar.maxsi c0_i32_414 v793
  let v795 : BitVec 32 := Scalar.minsi c56_i32_415 v794
  let c64_i32_417 : BitVec 32 := 64#32
  let v799 : BitVec 32 := Scalar.muli v795 c64_i32_417
  v799
def k1_mult61 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_426 : BitVec 32 := 32#32
  let v818 : BitVec 32 := Scalar.muli arg9 c32_i32_426
  let c30_i32 : BitVec 32 := 30#32
  let v819 : BitVec 32 := Scalar.addi v818 c30_i32
  let c64_i32_430 : BitVec 32 := 64#32
  let v824 : BitVec 32 := Scalar.muli v819 c64_i32_430
  v824
def k1_mult62 (k1_t1 : Fin k1_t1_loop.trips) : BitVec 32 :=
  let c56_i32_429 : BitVec 32 := 56#32
  let c0_i32_428 : BitVec 32 := 0#32
  let c0_i32 : BitVec 32 := 0#32
  let c1_i32 : BitVec 32 := 1#32
  let arg9 : BitVec 32 := Scf.iv c0_i32 c1_i32 k1_t1
  let c32_i32_426 : BitVec 32 := 32#32
  let v818 : BitVec 32 := Scalar.muli arg9 c32_i32_426
  let c30_i32 : BitVec 32 := 30#32
  let v819 : BitVec 32 := Scalar.addi v818 c30_i32
  let c4_i32_427 : BitVec 32 := 4#32
  let v820 : BitVec 32 := Scalar.subi v819 c4_i32_427
  let v821 : BitVec 32 := Scalar.maxsi c0_i32_428 v820
  let v822 : BitVec 32 := Scalar.minsi c56_i32_429 v821
  let c64_i32_431 : BitVec 32 := 64#32
  let v826 : BitVec 32 := Scalar.muli v822 c64_i32_431
  v826
def k1_mult63 (k1_t1 : Fin k1_t1_loop.trips) : BitVec 32 :=
  let c0_i32 : BitVec 32 := 0#32
  let c1_i32 : BitVec 32 := 1#32
  let arg9 : BitVec 32 := Scf.iv c0_i32 c1_i32 k1_t1
  let c32_i32_440 : BitVec 32 := 32#32
  let v845 : BitVec 32 := Scalar.muli arg9 c32_i32_440
  let c31_i32 : BitVec 32 := 31#32
  let v846 : BitVec 32 := Scalar.addi v845 c31_i32
  let c64_i32_444 : BitVec 32 := 64#32
  let v851 : BitVec 32 := Scalar.muli v846 c64_i32_444
  v851
def k1_mult64 (k1_t1 : Fin k1_t1_loop.trips) : BitVec 32 :=
  let c56_i32_443 : BitVec 32 := 56#32
  let c0_i32_442 : BitVec 32 := 0#32
  let c0_i32 : BitVec 32 := 0#32
  let c1_i32 : BitVec 32 := 1#32
  let arg9 : BitVec 32 := Scf.iv c0_i32 c1_i32 k1_t1
  let c32_i32_440 : BitVec 32 := 32#32
  let v845 : BitVec 32 := Scalar.muli arg9 c32_i32_440
  let c31_i32 : BitVec 32 := 31#32
  let v846 : BitVec 32 := Scalar.addi v845 c31_i32
  let c4_i32_441 : BitVec 32 := 4#32
  let v847 : BitVec 32 := Scalar.subi v846 c4_i32_441
  let v848 : BitVec 32 := Scalar.maxsi c0_i32_442 v847
  let v849 : BitVec 32 := Scalar.minsi c56_i32_443 v848
  let c64_i32_445 : BitVec 32 := 64#32
  let v853 : BitVec 32 := Scalar.muli v849 c64_i32_445
  v853
def k1_off3 (k1_t1 : Fin k1_t1_loop.trips) (c0_i32_6 : BitVec 32) (c0_i32_456 : BitVec 32) : Fin 4 → Nat :=
  let c0_457 : Index := 0#32
  let c7_i32_455 : BitVec 32 := 7#32
  let c0_i32 : BitVec 32 := 0#32
  let c1_i32 : BitVec 32 := 1#32
  let arg9 : BitVec 32 := Scf.iv c0_i32 c1_i32 k1_t1
  let c32_i32 : BitVec 32 := 32#32
  let v8 : BitVec 32 := Scalar.muli arg9 c32_i32
  let v9 : BitVec 32 := Scalar.addi v8 c0_i32_6
  let c56_i32 : BitVec 32 := 56#32
  let c0_i32_7 : BitVec 32 := 0#32
  let c4_i32 : BitVec 32 := 4#32
  let v10 : BitVec 32 := Scalar.subi v9 c4_i32
  let v11 : BitVec 32 := Scalar.maxsi c0_i32_7 v10
  let v12 : BitVec 32 := Scalar.minsi c56_i32 v11
  let v13 : BitVec 32 := Scalar.subi v9 v12
  let v874 : BitVec 32 := Scalar.subi c7_i32_455 v13
  let v875 : BitVec 32 := Scalar.addi v874 c0_i32_456
  let v876 : Index := Scalar.indexCast v875
  let c0_458 : Index := 0#32
  let c0_459 : Index := 0#32
  ![0, v876.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x14x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S8x256x512 : Shape := ⟨3, ![8, 256, 512]⟩
abbrev S8x15x31 : Shape := ⟨3, ![8, 15, 31]⟩
abbrev S8x4096x8x64 : Shape := ⟨4, ![8, 4096, 8, 64]⟩
abbrev S8x256x8x64 : Shape := ⟨4, ![8, 256, 8, 64]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x2 : Shape := ⟨3, ![4096, 4096, 2]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S8x8x4096x256 : Shape := ⟨4, ![8, 8, 4096, 256]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩

abbrev nBuf : Space → Nat
  | .hbm => 167
  | .vmem => 0
  | .smem => 0
  | _ => 0

abbrev hbmTy0_0 (i : Nat) : BufTy := match i % 128 with
  | 0 => ⟨S8x4096x512, .f32⟩
  | 1 => ⟨S8x4096x512, .bf16⟩
  | 2 => ⟨S8x4096x512, .bf16⟩
  | 3 => ⟨S8x256x512, .bf16⟩
  | 4 => ⟨S8x256x512, .bf16⟩
  | 5 => ⟨S8x15x31, .f32⟩
  | 6 => ⟨S8x4096x8x64, .f32⟩
  | 7 => ⟨S8x4096x512, .f32⟩
  | 8 => ⟨S8x4096x8x64, .f32⟩
  | 9 => ⟨S8x4096x512, .f32⟩
  | 10 => ⟨S8x4096x8x64, .f32⟩
  | 11 => ⟨S8x256x512, .f32⟩
  | 12 => ⟨S8x256x8x64, .f32⟩
  | 13 => ⟨S8x256x512, .f32⟩
  | 14 => ⟨S8x256x8x64, .f32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S_, .i32⟩
  | 26 => ⟨S_, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096x1, .i32⟩
  | 34 => ⟨S_, .i32⟩
  | 35 => ⟨S4096, .i32⟩
  | 36 => ⟨S4096, .i32⟩
  | 37 => ⟨S_, .i32⟩
  | 38 => ⟨S_, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096x1, .i32⟩
  | 46 => ⟨S1x4096, .i32⟩
  | 47 => ⟨S4096x4096, .i32⟩
  | 48 => ⟨S4096x4096, .i32⟩
  | 49 => ⟨S4096x4096, .i1⟩
  | 50 => ⟨S_, .i32⟩
  | 51 => ⟨S4096x1, .i32⟩
  | 52 => ⟨S4096x1, .i32⟩
  | 53 => ⟨S1x4096, .i32⟩
  | 54 => ⟨S4096x4096, .i32⟩
  | 55 => ⟨S4096x4096, .i32⟩
  | 56 => ⟨S4096x4096, .i1⟩
  | 57 => ⟨S4096x4096, .i1⟩
  | 58 => ⟨S1x4096, .i32⟩
  | 59 => ⟨S4096x4096, .i32⟩
  | 60 => ⟨S4096x4096, .i32⟩
  | 61 => ⟨S4096x4096, .i1⟩
  | 62 => ⟨S4096x4096, .i1⟩
  | 63 => ⟨S_, .i32⟩
  | 64 => ⟨S4096x1, .i32⟩
  | 65 => ⟨S4096x1, .i32⟩
  | 66 => ⟨S1x4096, .i32⟩
  | 67 => ⟨S4096x4096, .i32⟩
  | 68 => ⟨S4096x4096, .i32⟩
  | 69 => ⟨S4096x4096, .i1⟩
  | 70 => ⟨S4096x4096, .i1⟩
  | 71 => ⟨S4096x1, .i32⟩
  | 72 => ⟨S1x4096, .i32⟩
  | 73 => ⟨S4096x4096, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S_, .i32⟩
  | 83 => ⟨S_, .i32⟩
  | 84 => ⟨S_, .i32⟩
  | 85 => ⟨S4096x4096, .i32⟩
  | 86 => ⟨S4096x4096, .i32⟩
  | 87 => ⟨S_, .i32⟩
  | 88 => ⟨S4096x4096, .i32⟩
  | 89 => ⟨S4096x4096, .i32⟩
  | 90 => ⟨S4096x1, .i32⟩
  | 91 => ⟨S1x4096, .i32⟩
  | 92 => ⟨S4096x4096, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S_, .i32⟩
  | 99 => ⟨S4096x4096, .i32⟩
  | 100 => ⟨S4096x4096, .i32⟩
  | 101 => ⟨S_, .i32⟩
  | 102 => ⟨S_, .i32⟩
  | 103 => ⟨S_, .i32⟩
  | 104 => ⟨S4096x4096, .i32⟩
  | 105 => ⟨S4096x4096, .i32⟩
  | 106 => ⟨S_, .i32⟩
  | 107 => ⟨S4096x4096, .i32⟩
  | 108 => ⟨S4096x4096, .i32⟩
  | 109 => ⟨S_, .i32⟩
  | 110 => ⟨S4096x4096, .i32⟩
  | 111 => ⟨S4096x4096, .i1⟩
  | 112 => ⟨S_, .i32⟩
  | 113 => ⟨S4096x4096, .i32⟩
  | 114 => ⟨S4096x4096, .i32⟩
  | 115 => ⟨S4096x4096, .i32⟩
  | 116 => ⟨S_, .i32⟩
  | 117 => ⟨S4096x4096, .i32⟩
  | 118 => ⟨S4096x4096, .i1⟩
  | 119 => ⟨S_, .i32⟩
  | 120 => ⟨S4096x4096, .i32⟩
  | 121 => ⟨S4096x4096, .i32⟩
  | 122 => ⟨S4096x4096, .i32⟩
  | 123 => ⟨S4096x4096x1, .i32⟩
  | 124 => ⟨S4096x4096x1, .i32⟩
  | 125 => ⟨S4096x4096x2, .i32⟩
  | 126 => ⟨S8x4096x4096, .f32⟩
  | 127 => ⟨S8x8x4096x4096, .f32⟩
  | _ => ⟨S8x4096x512, .f32⟩

abbrev hbmTy0_1 (i : Nat) : BufTy := match i % 128 with
  | 0 => ⟨S_, .f32⟩
  | 1 => ⟨S8x8x4096x4096, .f32⟩
  | 2 => ⟨S8x8x4096x4096, .f32⟩
  | 3 => ⟨S1x8x4096x4096, .f32⟩
  | 4 => ⟨S8x8x4096x4096, .f32⟩
  | 5 => ⟨S8x8x4096x4096, .f32⟩
  | 6 => ⟨S_, .f32⟩
  | 7 => ⟨S_, .f32⟩
  | 8 => ⟨S8x8x4096x4096, .i1⟩
  | 9 => ⟨S8x8x4096x4096, .f32⟩
  | 10 => ⟨S8x8x4096x4096, .f32⟩
  | 11 => ⟨S8x8x4096x256, .f32⟩
  | 12 => ⟨S_, .f32⟩
  | 13 => ⟨S8x8x4096x256, .f32⟩
  | 14 => ⟨S8x8x4096x256, .f32⟩
  | 15 => ⟨S8x8x4096x4352, .f32⟩
  | 16 => ⟨S_, .f32⟩
  | 17 => ⟨S8x8x4096, .f32⟩
  | 18 => ⟨S_, .f32⟩
  | 19 => ⟨S8x8x4096, .f32⟩
  | 20 => ⟨S8x8x4096, .f32⟩
  | 21 => ⟨S8x8x4096x1, .f32⟩
  | 22 => ⟨S8x8x4096x4352, .f32⟩
  | 23 => ⟨S8x8x4096x4352, .f32⟩
  | 24 => ⟨S8x8x4096x4352, .f32⟩
  | 25 => ⟨S_, .f32⟩
  | 26 => ⟨S8x8x4096, .f32⟩
  | 27 => ⟨S8x8x4096x1, .f32⟩
  | 28 => ⟨S8x8x4096x4352, .f32⟩
  | 29 => ⟨S8x8x4096x4352, .f32⟩
  | 30 => ⟨S8x8x4096x4096, .f32⟩
  | 31 => ⟨S8x8x64x4096, .f32⟩
  | 32 => ⟨S8x4096x8x64, .f32⟩
  | 33 => ⟨S8x8x4096x256, .f32⟩
  | 34 => ⟨S8x8x64x4096, .f32⟩
  | 35 => ⟨S8x4096x8x64, .f32⟩
  | 36 => ⟨S8x4096x8x64, .f32⟩
  | 37 => ⟨S8x4096x512, .f32⟩
  | 38 => ⟨S8x4096x512, .bf16⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_c_6 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_c_12 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_13 : Ref sig .tc := ⟨.hbm, 95, rfl⟩
abbrev main_v60 : Ref sig .tc := ⟨.hbm, 96, rfl⟩
abbrev main_v61 : Ref sig .tc := ⟨.hbm, 97, rfl⟩
abbrev main_c_14 : Ref sig .tc := ⟨.hbm, 98, rfl⟩
abbrev main_v62 : Ref sig .tc := ⟨.hbm, 99, rfl⟩
abbrev main_v63 : Ref sig .tc := ⟨.hbm, 100, rfl⟩
abbrev main_c_15 : Ref sig .tc := ⟨.hbm, 101, rfl⟩
abbrev main_c_16 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v64 : Ref sig .tc := ⟨.hbm, 108, rfl⟩
abbrev main_c_17 : Ref sig .tc := ⟨.hbm, 109, rfl⟩
abbrev main_v65 : Ref sig .tc := ⟨.hbm, 110, rfl⟩
abbrev main_v66 : Ref sig .tc := ⟨.hbm, 111, rfl⟩
abbrev main_c_18 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_19 : Ref sig .tc := ⟨.hbm, 116, rfl⟩
abbrev main_v70 : Ref sig .tc := ⟨.hbm, 117, rfl⟩
abbrev main_v71 : Ref sig .tc := ⟨.hbm, 118, rfl⟩
abbrev main_c_20 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_21 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v85 : Ref sig .tc := ⟨.hbm, 138, rfl⟩
abbrev main_v86 : Ref sig .tc := ⟨.hbm, 139, rfl⟩
abbrev main_cst_22 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_23 : Ref sig .tc := ⟨.hbm, 144, rfl⟩
abbrev main_v90 : Ref sig .tc := ⟨.hbm, 145, rfl⟩
abbrev main_cst_24 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_25 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩

abbrev nD : Nat := 1
abbrev τ : Topo := Topo.v7x

variable {F : FTy → Type} [FloatOps F]

def κ : String → Option EReal := fun
  | "mask" => some ⊥
  | _ => none
-- ==== Kernel2.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S2x1024 : Shape := ⟨2, ![2, 1024]⟩
abbrev S1024 : Shape := ⟨1, ![1024]⟩
abbrev S2x16x6144 : Shape := ⟨3, ![2, 16, 6144]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S192x1x1024 : Shape := ⟨3, ![192, 1, 1024]⟩
abbrev S32768x1024 : Shape := ⟨2, ![32768, 1024]⟩
abbrev S32768x256 : Shape := ⟨2, ![32768, 256]⟩
abbrev S32768x512 : Shape := ⟨2, ![32768, 512]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S1x1x1024 : Shape := ⟨3, ![1, 1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S1x256x1024 : Shape := ⟨3, ![1, 256, 1024]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 25
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x256, .bf16⟩
  | .hbm, ⟨3, _⟩ => ⟨S8x4096x512, .bf16⟩
  | .hbm, ⟨4, _⟩ => ⟨S2x1024, .f32⟩
  | .hbm, ⟨5, _⟩ => ⟨S1024, .f32⟩
  | .hbm, ⟨6, _⟩ => ⟨S2x16x6144, .f32⟩
  | .hbm, ⟨7, _⟩ => ⟨S2x1024x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S192x1x1024, .f32⟩
  | .hbm, ⟨12, _⟩ => ⟨S32768x1024, .f32⟩
  | .hbm, ⟨13, _⟩ => ⟨S32768x256, .bf16⟩
  | .hbm, ⟨14, _⟩ => ⟨S32768x256, .bf16⟩
  | .hbm, ⟨15, _⟩ => ⟨S32768x512, .bf16⟩
  | .hbm, ⟨16, _⟩ => ⟨S1x1024, .f32⟩
  | .hbm, ⟨17, _⟩ => ⟨S1024, .f32⟩
  | .hbm, ⟨18, _⟩ => ⟨S2x1024x1024, .bf16⟩
  | .hbm, ⟨19, _⟩ => ⟨S2x1024x2816, .bf16⟩
  | .hbm, ⟨20, _⟩ => ⟨S2x1024x2816, .bf16⟩
  | .hbm, ⟨21, _⟩ => ⟨S2x2816x1024, .bf16⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S1x1024x1024, .bf16⟩
  | .local _ .vmem, ⟨19, _⟩ => ⟨S1x1024x2816, .bf16⟩
  | .local _ .vmem, ⟨20, _⟩ => ⟨S1x1024x2816, .bf16⟩
  | .local _ .vmem, ⟨21, _⟩ => ⟨S1x2816x1024, .bf16⟩
  | .local _ .vmem, ⟨22, _⟩ => ⟨S512x1024, .f32⟩
  | .local _ .vmem, ⟨23, _⟩ => ⟨S512x1024, .f32⟩
  | .local _ .vmem, ⟨24, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c6_i32 : BitVec 32 := 6#32
  let v18 : BitVec 32 := Scalar.muli v17 c6_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c6_i32 : BitVec 32 := 6#32
  let v18 : BitVec 32 := Scalar.muli v17 c6_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c6_i32 : BitVec 32 := 6#32
  let v18 : BitVec 32 := Scalar.muli v17 c6_i32
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S2x1024 : Shape := ⟨2, ![2, 1024]⟩
abbrev S1024 : Shape := ⟨1, ![1024]⟩
abbrev S2x16x6144 : Shape := ⟨3, ![2, 16, 6144]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x256, .bf16⟩
  | .hbm, ⟨3, _⟩ => ⟨S8x4096x512, .bf16⟩
  | .hbm, ⟨4, _⟩ => ⟨S2x1024, .f32⟩
  | .hbm, ⟨5, _⟩ => ⟨S1024, .f32⟩
  | .hbm, ⟨6, _⟩ => ⟨S2x16x6144, .f32⟩
  | .hbm, ⟨7, _⟩ => ⟨S2x1024x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S1x8x6144, .f32⟩
  | .hbm, ⟨12, _⟩ => ⟨S8x6144, .f32⟩
  | .hbm, ⟨13, _⟩ => ⟨S8x1x6144, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x4096x256, .f32⟩
  | .hbm, ⟨21, _⟩ => ⟨S8x4096x256, .f32⟩
  | .hbm, ⟨22, _⟩ => ⟨S8x4096x512, .f32⟩
  | .hbm, ⟨23, _⟩ => ⟨S8x4096x1024, .f32⟩
  | .hbm, ⟨24, _⟩ => ⟨S1x1024x1024, .f32⟩
  | .hbm, ⟨25, _⟩ => ⟨S1024x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S1x1024, .f32⟩
  | .hbm, ⟨31, _⟩ => ⟨S1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x1x1024, .f32⟩
  | .hbm, ⟨50, _⟩ => ⟨S8x1x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S1x1024x2816, .f32⟩
  | .hbm, ⟨56, _⟩ => ⟨S1024x2816, .f32⟩
  | .hbm, ⟨57, _⟩ => ⟨S1x1024x2816, .f32⟩
  | .hbm, ⟨58, _⟩ => ⟨S1024x2816, .f32⟩
  | .hbm, ⟨59, _⟩ => ⟨S1x2816x1024, .f32⟩
  | .hbm, ⟨60, _⟩ => ⟨S2816x1024, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_3 : Ref sig .tc := ⟨.hbm, 78, rfl⟩
abbrev main_v55 : Ref sig .tc := ⟨.hbm, 79, rfl⟩
abbrev main_v56 : Ref sig .tc := ⟨.hbm, 80, rfl⟩
abbrev main_cst_4 : Ref sig .tc := ⟨.hbm, 81, rfl⟩
abbrev main_v57 : Ref sig .tc := ⟨.hbm, 82, rfl⟩
abbrev main_v58 : Ref sig .tc := ⟨.hbm, 83, rfl⟩
abbrev main_cst_5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024 : Shape := ⟨2, ![2, 1024]⟩
abbrev S2x16x6144 : Shape := ⟨3, ![2, 16, 6144]⟩
abbrev S2x1024x3072 : Shape := ⟨3, ![2, 1024, 3072]⟩
abbrev S192x1x1024 : Shape := ⟨3, ![192, 1, 1024]⟩
abbrev S32768x1024 : Shape := ⟨2, ![32768, 1024]⟩
abbrev S1x1024 : Shape := ⟨2, ![1, 1024]⟩
abbrev S1024 : Shape := ⟨1, ![1024]⟩
abbrev S32768x256 : Shape := ⟨2, ![32768, 256]⟩
abbrev S32768x512 : Shape := ⟨2, ![32768, 512]⟩
abbrev S1024x1024 : Shape := ⟨2, ![1024, 1024]⟩
abbrev S1x1x1024 : Shape := ⟨3, ![1, 1, 1024]⟩
abbrev S1x1024x3072 : Shape := ⟨3, ![1, 1024, 3072]⟩
abbrev S1024x256 : Shape := ⟨2, ![1024, 256]⟩
abbrev S1024x512 : Shape := ⟨2, ![1024, 512]⟩
abbrev S1024x1 : Shape := ⟨2, ![1024, 1]⟩
abbrev S1x1024x256 : Shape := ⟨3, ![1, 1024, 256]⟩
abbrev S1x1024x512 : Shape := ⟨3, ![1, 1024, 512]⟩

abbrev nBuf : Space → Nat
  | .hbm => 19
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x16x6144, .f32⟩
  | .hbm, ⟨3, _⟩ => ⟨S2x1024x3072, .f32⟩
  | .hbm, ⟨4, _⟩ => ⟨S192x1x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S2x1024x3072, .bf16⟩
  | .hbm, ⟨9, _⟩ => ⟨S1x1024, .f32⟩
  | .hbm, ⟨10, _⟩ => ⟨S32768x256, .bf16⟩
  | .hbm, ⟨11, _⟩ => ⟨S32768x256, .bf16⟩
  | .hbm, ⟨12, _⟩ => ⟨S32768x256, .f32⟩
  | .hbm, ⟨13, _⟩ => ⟨S32768x256, .f32⟩
  | .hbm, ⟨14, _⟩ => ⟨S32768x256, .bf16⟩
  | .hbm, ⟨15, _⟩ => ⟨S32768x256, .bf16⟩
  | .hbm, ⟨16, _⟩ => ⟨S32768x512, .bf16⟩
  | .hbm, ⟨17, _⟩ => ⟨S32768x512, .bf16⟩
  | .hbm, ⟨18, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x3072, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev main_v6_6 : Ref sig .tc := ⟨.hbm, 16, rfl⟩
abbrev main_v6_7 : Ref sig .tc := ⟨.hbm, 17, rfl⟩
abbrev main_v6_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8x4096x1024 : Shape := ⟨3, ![8, 4096, 1024]⟩
abbrev S2x1024 : Shape := ⟨2, ![2, 1024]⟩
abbrev S2x16x6144 : Shape := ⟨3, ![2, 16, 6144]⟩
abbrev S2x1024x3072 : Shape := ⟨3, ![2, 1024, 3072]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S8x4096x3072 : Shape := ⟨3, ![8, 4096, 3072]⟩
abbrev S32768x3072 : Shape := ⟨2, ![32768, 3072]⟩
abbrev S32768x256 : Shape := ⟨2, ![32768, 256]⟩
abbrev S32768x512 : Shape := ⟨2, ![32768, 512]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x16x6144, .f32⟩
  | .hbm, ⟨3, _⟩ => ⟨S2x1024x3072, .f32⟩
  | .hbm, ⟨4, _⟩ => ⟨S1x8x6144, .f32⟩
  | .hbm, ⟨5, _⟩ => ⟨S8x6144, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1x1024, .f32⟩
  | .hbm, ⟨14, _⟩ => ⟨S1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S1x1024x3072, .f32⟩
  | .hbm, ⟨39, _⟩ => ⟨S1024x3072, .f32⟩
  | .hbm, ⟨40, _⟩ => ⟨S8x4096x3072, .f32⟩
  | .hbm, ⟨41, _⟩ => ⟨S32768x3072, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x256, .bf16⟩
  | .hbm, ⟨52, _⟩ => ⟨S32768x256, .bf16⟩
  | .hbm, ⟨53, _⟩ => ⟨S32768x256, .bf16⟩
  | .hbm, ⟨54, _⟩ => ⟨S32768x256, .bf16⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S32768x512, .bf16⟩
  | .hbm, ⟨59, _⟩ => ⟨S32768x512, .bf16⟩
  | .hbm, ⟨60, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Proof.InProj.lean ====
/- The value of the input projection: every one of the nine arrays the launch leaves is the plain computation's. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

/-- Where each window sits at a grid point, all 32 points at once. -/
theorem idx : ∀ t : Fin cfg0.N, win0_0.index t = ![t.val, 0] ∧ win0_1.index t = ![0, 0]
    ∧ win0_2.index t = ![(16 + t.val / 4) * 6, 0, 0] ∧ win0_3.index t = ![(16 + t.val / 4) * 6 + 1, 0, 0]
    ∧ win0_4.index t = ![1, 0, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![t.val, 0] :=
  (by decide +kernel : ∀ t : Fin grid0.N, _)

/-- One row of the normalised and modulated tile is the plain computation's row. -/
theorem row (c : Dev nD) (t : Fin cfg0.N) (p : Fin 1024) (k : Fin 1024) (b : Fin 8) (s : Fin 4096)
    (hb : b.val = t.val / 4) (hs : s.val = (t.val % 4) * 1024 + p.val) :
    k0_pay13 (iblk m c 0 t) (iblk m c 1 t) (iblk m c 2 t) (iblk m c 3 t) (iblk m c 4 t) (ix2 p k)
      = val_main_v29 (m ((c : Thread nD τ).loc main_arg0)) (m ((c : Thread nD τ).loc main_arg1))
          (m ((c : Thread nD τ).loc main_arg2)) (ix3 b s k) := by
  unfold k0_pay13
  pointwise [k0_pay4, val_main_v29, val_main_v28, val_main_v27, val_main_v26, val_main_v25, val_main_v24, val_main_cst_2, val_main_v23, val_main_v22, val_main_v21, val_main_v20, val_main_v19, val_main_v18, val_main_v17,
    val_main_v16, val_main_cst_1, val_main_v15, val_main_v14, val_main_cst_0, val_main_v13, val_main_v12, val_main_cst, val_main_v11, val_main_v10, val_main_v9, val_main_v4, val_main_v3, val_main_v2, val_main_v1, val_main_v0]
  blk_point [iblk, V, idx t]

/-- One entry of the plain projection: the row of the modulated activations against a column of the last layer's weights. -/
theorem proj (X0 : FVec Ideal S8x4096x1024 .f32) (X1 : FVec Ideal S2x1024 .f32) (X2 : FVec Ideal S2x16x6144 .f32)
    (X3 : FVec Ideal S2x1024x3072 .f32) (n : Fin 32768) (j : Fin 3072) (b : Fin 8) (s : Fin 4096)
    (hb : b.val = n.val / 4096) (hs : s.val = n.val % 4096) :
    val_main_v33 (F := Ideal) X0 X1 X2 X3 (ix2 n j)
      = ∑ k : Fin 1024, val_main_v29 (F := Ideal) X0 X1 X2 (ix3 b s k) * X3 (ix3 1 k j) := by
  pointwise [val_main_v33, val_main_v32, val_main_v31, val_main_v30]
  blk_point []

/-- One entry of a tile's product with the weights is the plain projection's entry. -/
theorem core (c : Dev nD) (t : Fin cfg0.N) (p : Fin 1024) (j j' : Fin 3072) (n : Fin 32768)
    (hn : n.val = t.val * 1024 + p.val) (hj : j'.val = j.val) :
    ∑ k : Fin 1024, k0_pay13 (iblk m c 0 t) (iblk m c 1 t) (iblk m c 2 t) (iblk m c 3 t) (iblk m c 4 t) (ix2 p k)
        * iblk m c 4 t (ix3 0 k j)
      = val_main_v33 (m ((c : Thread nD τ).loc main_arg0)) (m ((c : Thread nD τ).loc main_arg1))
          (m ((c : Thread nD τ).loc main_arg2)) (m ((c : Thread nD τ).loc main_arg3)) (ix2 n j') := by
  obtain rfl : j' = j := Fin.ext hj
  have ht : t.val < 32 := t.isLt
  rw [proj _ _ _ _ n j' ⟨n.val / 4096, by omega⟩ ⟨n.val % 4096, by omega⟩ rfl rfl]
  refine Finset.sum_congr rfl fun k _ => ?_
  rw [row m c t p k ⟨n.val / 4096, by omega⟩ ⟨n.val % 4096, by omega⟩ (by simp only; omega) (by simp only; omega)]
  blk_point [iblk, V, idx t]

/-- The modulated tile, its reads of whole blocks written plainly. -/
theorem tile (c : Dev nD) (t : Fin cfg0.N) :
    k0_pay13 (iblk m c 0 t) (iblk m c 1 t) (iblk m c 2 t) (iblk m c 3 t) (iblk m c 4 t)
      = k0_pay4 (iblk m c 0 t) (iblk m c 1 t) (iblk m c 3 t) (iblk m c 2 t) := by
  unfold k0_pay13
  frame_out

/-- The array of the Fourier mixer's input after the launch. -/
theorem final5 (c : Dev nD) : (dats m 0 c).arrAt 5 (cfgs 0).N
    = val_main_v43 (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]; unfold out0_5; frame_out
  obtain ⟨p, q, rfl⟩ : ∃ (p : Fin 1024) (q : Fin 256), y = ix2 p q := ⟨y 0, y 1, eq_ix2 (n0 := 1024) (n1 := 256) y⟩
  have ht : t.val < 32 := t.isLt
  rw [show ((View.whole main_v6_0).slice (win0_5.rect t)).emb (ix2 p q)
    = ix2 (⟨t.val * 1024 + p.val, by omega⟩ : Fin 32768) q by blk_ext [idx t]]
  pointwise [k0_pay5, val_main_v43, val_main_v34]
  rw [← tile]
  exact core m c t p ⟨q.val, by omega⟩ ⟨q.val, by omega⟩ _ rfl rfl

/-- The array of the recurrence's query after the launch. -/
theorem final6 (c : Dev nD) : (dats m 0 c).arrAt 6 (cfgs 0).N
    = val_main_v44 (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  blk_simp
  rw [after0_6]; unfold out0_6; frame_out
  obtain ⟨p, q, rfl⟩ : ∃ (p : Fin 1024) (q : Fin 256), y = ix2 p q := ⟨y 0, y 1, eq_ix2 (n0 := 1024) (n1 := 256) y⟩
  have ht : t.val < 32 := t.isLt
  rw [show ((View.whole main_v6_1).slice (win0_6.rect t)).emb (ix2 p q)
    = ix2 (⟨t.val * 1024 + p.val, by omega⟩ : Fin 32768) q by blk_ext [idx t]]
  pointwise [k0_pay7, k0_pay6, val_main_v44, val_main_v35]
  exact core m c t p ⟨256 + q.val, by omega⟩ ⟨256 + q.val, by omega⟩ _ rfl rfl

/-- The array of the forward gate after the launch. -/
theorem final7 (c : Dev nD) : (dats m 0 c).arrAt 7 (cfgs 0).N
    = val_main_v36 (m ((c : Thread nD τ).loc main_arg0)) (m ((c : Thread nD τ).loc main_arg1))
          (m ((c : Thread nD τ).loc main_arg2)) (m ((c : Thread nD τ).loc main_arg3)) := by
  refine (dats m 0 c).arrAt_eq_of_covers 7 _ (by decide +kernel) fun t _ y => ?_
  blk_simp
  rw [after0_7]; unfold out0_7; frame_out
  obtain ⟨p, q, rfl⟩ : ∃ (p : Fin 1024) (q : Fin 256), y = ix2 p q := ⟨y 0, y 1, eq_ix2 (n0 := 1024) (n1 := 256) y⟩
  have ht : t.val < 32 := t.isLt
  rw [show ((View.whole main_v6_2).slice (win0_7.rect t)).emb (ix2 p q)
    = ix2 (⟨t.val * 1024 + p.val, by omega⟩ : Fin 32768) q by blk_ext [idx t]]
  pointwise [k0_pay8, val_main_v36]
  exact core m c t p ⟨512 + q.val, by omega⟩ ⟨512 + q.val, by omega⟩ _ rfl rfl

/-- The array of the backward gate after the launch. -/
theorem final8 (c : Dev nD) : (dats m 0 c).arrAt 8 (cfgs 0).N
    = val_main_v37 (m ((c : Thread nD τ).loc main_arg0)) (m ((c : Thread nD τ).loc main_arg1))
          (m ((c : Thread nD τ).loc main_arg2)) (m ((c : Thread nD τ).loc main_arg3)) := by
  refine (dats m 0 c).arrAt_eq_of_covers 8 _ (by decide +kernel) fun t _ y => ?_
  blk_simp
  rw [after0_8]; unfold out0_8; frame_out
  obtain ⟨p, q, rfl⟩ : ∃ (p : Fin 1024) (q : Fin 256), y = ix2 p q := ⟨y 0, y 1, eq_ix2 (n0 := 1024) (n1 := 256) y⟩
  have ht : t.val < 32 := t.isLt
  rw [show ((View.whole main_v6_3).slice (win0_8.rect t)).emb (ix2 p q)
    = ix2 (⟨t.val * 1024 + p.val, by omega⟩ : Fin 32768) q by blk_ext [idx t]]
  pointwise [k0_pay9, val_main_v37]
  exact core m c t p ⟨768 + q.val, by omega⟩ ⟨768 + q.val, by omega⟩ _ rfl rfl

/-- The array of the recurrence's input after the launch. -/
theorem final9 (c : Dev nD) : (dats m 0 c).arrAt 9 (cfgs 0).N
    = val_main_v45 (m ((c : Thread nD τ).loc main_arg0)) (m ((c : Thread nD τ).loc main_arg1))
          (m ((c : Thread nD τ).loc main_arg2)) (m ((c : Thread nD τ).loc main_arg3)) := by
  refine (dats m 0 c).arrAt_eq_of_covers 9 _ (by decide +kernel) fun t _ y => ?_
  blk_simp
  rw [after0_9]; unfold out0_9; frame_out
  obtain ⟨p, q, rfl⟩ : ∃ (p : Fin 1024) (q : Fin 256), y = ix2 p q := ⟨y 0, y 1, eq_ix2 (n0 := 1024) (n1 := 256) y⟩
  have ht : t.val < 32 := t.isLt
  rw [show ((View.whole main_v6_4).slice (win0_9.rect t)).emb (ix2 p q)
    = ix2 (⟨t.val * 1024 + p.val, by omega⟩ : Fin 32768) q by blk_ext [idx t]]
  pointwise [k0_pay10, val_main_v45, val_main_v38]
  exact core m c t p ⟨1024 + q.val, by omega⟩ ⟨1024 + q.val, by omega⟩ _ rfl rfl

/-- The array of the recurrence's output gate after the launch. -/
theorem final10 (c : Dev nD) : (dats m 0 c).arrAt 10 (cfgs 0).N
    = val_main_v46 (m ((c : Thread nD τ).loc main_arg0)) (m ((c : Thread nD τ).loc main_arg1))
          (m ((c : Thread nD τ).loc main_arg2)) (m ((c : Thread nD τ).loc main_arg3)) := by
  refine (dats m 0 c).arrAt_eq_of_covers 10 _ (by decide +kernel) fun t _ y => ?_
  blk_simp
  rw [after0_10]; unfold out0_10; frame_out
  obtain ⟨p, q, rfl⟩ : ∃ (p : Fin 1024) (q : Fin 256), y = ix2 p q := ⟨y 0, y 1, eq_ix2 (n0 := 1024) (n1 := 256) y⟩
  have ht : t.val < 32 := t.isLt
  rw [show ((View.whole main_v6_5).slice (win0_10.rect t)).emb (ix2 p q)
    = ix2 (⟨t.val * 1024 + p.val, by omega⟩ : Fin 32768) q by blk_ext [idx t]]
  pointwise [k0_pay11, val_main_v46, val_main_v39]
  exact core m c t p ⟨1280 + q.val, by omega⟩ ⟨1280 + q.val, by omega⟩ _ rfl rfl

/-- The array of the scaled queries after the launch. -/
theorem final11 (c : Dev nD) : (dats m 0 c).arrAt 11 (cfgs 0).N
    = val_main_v49 (m ((c : Thread nD τ).loc main_arg0)) (m ((c : Thread nD τ).loc main_arg1))
          (m ((c : Thread nD τ).loc main_arg2)) (m ((c : Thread nD τ).loc main_arg3)) := by
  refine (dats m 0 c).arrAt_eq_of_covers 11 _ (by decide +kernel) fun t _ y => ?_
  blk_simp
  rw [after0_11]; unfold out0_11; frame_out
  obtain ⟨p, q, rfl⟩ : ∃ (p : Fin 1024) (q : Fin 512), y = ix2 p q := ⟨y 0, y 1, eq_ix2 (n0 := 1024) (n1 := 512) y⟩
  have ht : t.val < 32 := t.isLt
  rw [show ((View.whole main_v6_6).slice (win0_11.rect t)).emb (ix2 p q)
    = ix2 (⟨t.val * 1024 + p.val, by omega⟩ : Fin 32768) q by blk_ext [idx t]]
  pointwise [k0_pay1, k0_pay12, val_main_v49, val_main_v48, val_main_v40, val_main_v47, val_main_cst_3]
  exact congrArg (· * Ideal.ofBits FTy.f32 1040187392#32) (core m c t p ⟨1536 + q.val, by omega⟩ ⟨1536 + q.val, by omega⟩ _ rfl rfl)

/-- The array of the keys after the launch. -/
theorem final12 (c : Dev nD) : (dats m 0 c).arrAt 12 (cfgs 0).N
    = val_main_v50 (m ((c : Thread nD τ).loc main_arg0)) (m ((c : Thread nD τ).loc main_arg1))
          (m ((c : Thread nD τ).loc main_arg2)) (m ((c : Thread nD τ).loc main_arg3)) := by
  refine (dats m 0 c).arrAt_eq_of_covers 12 _ (by decide +kernel) fun t _ y => ?_
  blk_simp
  rw [after0_12]; unfold out0_12; frame_out
  obtain ⟨p, q, rfl⟩ : ∃ (p : Fin 1024) (q : Fin 512), y = ix2 p q := ⟨y 0, y 1, eq_ix2 (n0 := 1024) (n1 := 512) y⟩
  have ht : t.val < 32 := t.isLt
  rw [show ((View.whole main_v6_7).slice (win0_12.rect t)).emb (ix2 p q)
    = ix2 (⟨t.val * 1024 + p.val, by omega⟩ : Fin 32768) q by blk_ext [idx t]]
  pointwise [k0_pay2, val_main_v50, val_main_v41]
  exact core m c t p ⟨2048 + q.val, by omega⟩ ⟨2048 + q.val, by omega⟩ _ rfl rfl

/-- The array of the values after the launch. -/
theorem final13 (c : Dev nD) : (dats m 0 c).arrAt 13 (cfgs 0).N
    = val_main_v51 (m ((c : Thread nD τ).loc main_arg0)) (m ((c : Thread nD τ).loc main_arg1))
          (m ((c : Thread nD τ).loc main_arg2)) (m ((c : Thread nD τ).loc main_arg3)) := by
  refine (dats m 0 c).arrAt_eq_of_covers 13 _ (by decide +kernel) fun t _ y => ?_
  blk_simp
  rw [after0_13]; unfold out0_13; frame_out
  obtain ⟨p, q, rfl⟩ : ∃ (p : Fin 1024) (q : Fin 512), y = ix2 p q := ⟨y 0, y 1, eq_ix2 (n0 := 1024) (n1 := 512) y⟩
  have ht : t.val < 32 := t.isLt
  rw [show ((View.whole main_v6_8).slice (win0_13.rect t)).emb (ix2 p q)
    = ix2 (⟨t.val * 1024 + p.val, by omega⟩ : Fin 32768) q by blk_ext [idx t]]
  pointwise [k0_pay3, val_main_v51, val_main_v42]
  exact core m c t p ⟨2560 + q.val, by omega⟩ ⟨2560 + q.val, by omega⟩ _ rfl rfl

end Cert.Kernel3Ideal.InProj

end
-- ==== Proof.FfnRow.lean ====
/- The value of the last layer's output projection, feed-forward block and final normalisation. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- Where each window sits at a grid point, all 64 points at once. -/
theorem idx : ∀ t : Fin cfg0.N, win0_0.index t = ![t.val, 0] ∧ win0_1.index t = ![t.val, 0] ∧ win0_2.index t = ![t.val, 0]
    ∧ win0_3.index t = ![t.val, 0] ∧ win0_4.index t = ![(16 + t.val / 8) * 6 + 2, 0, 0]
    ∧ win0_5.index t = ![(16 + t.val / 8) * 6 + 3, 0, 0] ∧ win0_6.index t = ![(16 + t.val / 8) * 6 + 4, 0, 0]
    ∧ win0_7.index t = ![(16 + t.val / 8) * 6 + 5, 0, 0] ∧ win0_8.index t = ![0, 0] ∧ win0_9.index t = ![0, 0]
    ∧ win0_10.index t = ![1, 0, 0] ∧ win0_11.index t = ![1, 0, 0] ∧ win0_12.index t = ![1, 0, 0]
    ∧ win0_13.index t = ![1, 0, 0] ∧ win0_14.index t = ![t.val, 0] :=
  (by decide +kernel : ∀ t : Fin grid0.N, _)

/-- A sum over 1024 columns, cut after 256 and after 512. -/
theorem sum_three (f : Fin 1024 → EReal) :
    ∑ x, f x = ∑ x : Fin 256, f ⟨x.val, by omega⟩
      + (∑ x : Fin 256, f ⟨256 + x.val, by omega⟩ + ∑ x : Fin 512, f ⟨512 + x.val, by omega⟩) := by
  rw [Fin.sum_univ_two_halves 512 512 rfl f, Fin.sum_univ_two_halves 256 256 rfl, add_assoc]

/-- The first residual stream of a tile: the tokens plus the gated output projection of the three mixers. -/
def x1T (c : Dev nD) (t : Fin cfg0.N) : FVec Ideal S512x1024 .f32 :=
  k0_pay2 (iblk m c 1 t)
    (View.ld (iblk m c 10 t) (Rect.unit ![0, 0, 0] ![1, 256, 1024] inb_S1x1024x1024_S1x256x1024_0_0_0))
    (iblk m c 2 t)
    (View.ld (iblk m c 10 t) (Rect.unit ![0, 256, 0] ![1, 256, 1024] inb_S1x1024x1024_S1x256x1024_0_256_0))
    (iblk m c 3 t)
    (View.ld (iblk m c 10 t) (Rect.unit ![0, 512, 0] ![1, 512, 1024] inb_S1x1024x1024_S1x512x1024_0_512_0))
    (iblk m c 0 t) (iblk m c 4 t)

/-- The reciprocal root of the mean square of that stream, along a row. -/
def n1T (c : Dev nD) (t : Fin cfg0.N) : FVec Ideal S512x1024 .f32 :=
  k0_pay3 (iblk m c 1 t)
    (View.ld (iblk m c 10 t) (Rect.unit ![0, 0, 0] ![1, 256, 1024] inb_S1x1024x1024_S1x256x1024_0_0_0))
    (iblk m c 2 t)
    (View.ld (iblk m c 10 t) (Rect.unit ![0, 256, 0] ![1, 256, 1024] inb_S1x1024x1024_S1x256x1024_0_256_0))
    (iblk m c 3 t)
    (View.ld (iblk m c 10 t) (Rect.unit ![0, 512, 0] ![1, 512, 1024] inb_S1x1024x1024_S1x512x1024_0_512_0))
    (iblk m c 0 t) (iblk m c 4 t)

/-- The normalised and modulated tile that the feed-forward block reads. -/
def hmT (c : Dev nD) (t : Fin cfg0.N) : FVec Ideal S512x1024 .bf16 :=
  k0_pay4 (x1T m c t) (n1T m c t) (iblk m c 8 t) (iblk m c 6 t) (iblk m c 5 t)

/-- The first residual stream is the plain computation's. -/
theorem row1 (c : Dev nD) (t : Fin cfg0.N) (p : Fin 512) (k : Fin 1024) (b : Fin 8) (s : Fin 4096)
    (hb : b.val = t.val / 8) (hs : s.val = (t.val % 8) * 512 + p.val) :
    x1T m c t (ix2 p k)
      = val_main_v18 (m ((c : Thread nD τ).loc main_arg0)) (m ((c : Thread nD τ).loc main_arg1))
          (m ((c : Thread nD τ).loc main_arg2)) (m ((c : Thread nD τ).loc main_arg3))
          (m ((c : Thread nD τ).loc main_arg6)) (m ((c : Thread nD τ).loc main_arg7)) (ix3 b s k) := by
  unfold x1T
  pointwise [k0_pay2, val_main_v18, val_main_v17, val_main_v16, val_main_v15, val_main_v14, val_main_v13, val_main_v12, val_main_v11, val_main_v10, val_main_v9, val_main_v5, val_main_v2, val_main_v1, val_main_v0]
  have e0 : ∀ x : Fin 256, x.val < 256 := fun x => x.isLt
  have e1 : ∀ x : Fin 256, ¬ (256 + x.val < 256) := fun x => by omega
  have e2 : ∀ x : Fin 512, ¬ (512 + x.val < 256) := fun x => by omega
  have e3 : ∀ x : Fin 512, ¬ (512 + x.val - 256 < 256) := fun x => by omega
  have e4 : ∀ x : Fin 256, 256 + x.val - 256 = x.val := fun x => by omega
  have e5 : ∀ x : Fin 512, 512 + x.val - 256 - 256 = x.val := fun x => by omega
  rw [add_assoc, sum_three]
  simp only [e0, e1, e2, e3, e4, e5, dif_pos, dif_neg, not_false_eq_true, Fin.eta]
  blk_point [iblk, V, idx t]

/-- The modulated tile is the plain computation's. -/
theorem row2 (c : Dev nD) (t : Fin cfg0.N) (p : Fin 512) (k : Fin 1024) (b : Fin 8) (s : Fin 4096)
    (hb : b.val = t.val / 8) (hs : s.val = (t.val % 8) * 512 + p.val) :
    hmT m c t (ix2 p k)
      = val_main_v39 (m ((c : Thread nD τ).loc main_arg0)) (m ((c : Thread nD τ).loc main_arg1))
          (m ((c : Thread nD τ).loc main_arg2)) (m ((c : Thread nD τ).loc main_arg3))
          (m ((c : Thread nD τ).loc main_arg4))
          (m ((c : Thread nD τ).loc main_arg6)) (m ((c : Thread nD τ).loc main_arg7)) (ix3 b s k) := by
  have h1 := fun k => row1 m c t p k b s hb hs
  have e : ∀ k, n1T m c t (ix2 p k) = Ideal.rsqrt (Ideal.div (∑ x : Fin 1024, x1T m c t (ix2 p x) * x1T m c t (ix2 p x))
      (Ideal.ofBits FTy.f32 1149239296#32) + Ideal.ofBits FTy.f32 897988541#32) := by
    intro k
    unfold n1T
    pointwise [k0_pay3]
    rfl
  unfold hmT
  pointwise [k0_pay4, val_main_v39, val_main_v38, val_main_v37, val_main_v36, val_main_v35, val_main_v34, val_main_cst_2, val_main_v33, val_main_v32, val_main_v31, val_main_v30, val_main_v29, val_main_v28,
    val_main_v27, val_main_v26, val_main_cst_1, val_main_v25, val_main_v24, val_main_cst_0, val_main_v23, val_main_v22, val_main_cst, val_main_v21, val_main_v20, val_main_v19,
    val_main_v7, val_main_v6, val_main_v2, val_main_v1, val_main_v0]
  simp only [e, h1]
  blk_point [iblk, V, idx t]

end Cert.Kernel2Ideal.Ffn

end
-- ==== Proof.Ffn.lean ====
/- The value of the last layer's output projection, feed-forward block and final normalisation. -/
module

public import proofs.«01_k».proof.Proof.Gen.Kernel2Ideal.Value
public import proofs.«01_k».proof.Proof.Gen.Reference2Ideal.Read
public import Idealize.ShloMosaic.Lib.Pipeline.ValueKit
public import proofs.«01_k».proof.Proof.FfnRow

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- One entry of the plain gated activation, from the modulated row and a column of each of the two weights. -/
theorem act_ref (X0 : FVec Ideal S8x4096x1024 .f32) (X1 : FVec Ideal S8x4096x256 .bf16) (X2 : FVec Ideal S8x4096x256 .bf16)
    (X3 : FVec Ideal S8x4096x512 .bf16) (X4 : FVec Ideal S2x1024 .f32) (X6 : FVec Ideal S2x16x6144 .f32)
    (X7 : FVec Ideal S2x1024x1024 .f32) (X8 X9 : FVec Ideal S2x1024x2816 .f32) (b : Fin 8) (s : Fin 4096) (j : Fin 2816) :
    val_main_v49 (F := Ideal) X0 X1 X2 X3 X4 X6 X7 X8 X9 (ix3 b s j)
      = (∑ k : Fin 1024, val_main_v39 (F := Ideal) X0 X1 X2 X3 X4 X6 X7 (ix3 b s k) * X8 (ix3 1 k j))
          * Ideal.div 1 (1 + Ideal.exp (-(∑ k : Fin 1024, val_main_v39 (F := Ideal) X0 X1 X2 X3 X4 X6 X7 (ix3 b s k) * X8 (ix3 1 k j))))
          * (∑ k : Fin 1024, val_main_v39 (F := Ideal) X0 X1 X2 X3 X4 X6 X7 (ix3 b s k) * X9 (ix3 1 k j)) := by
  pointwise [val_main_v49, val_main_v48, val_main_v47, val_main_call0_v5, val_main_call0_v4, val_main_call0_cst_0,
    val_main_call0_v3, val_main_call0_v2, val_main_call0_cst, val_main_call0_v1, val_main_call0_v0, val_main_v46,
    val_main_v43, val_main_v42, val_main_v41, val_main_v40]

/-- Where a column of a 256-column piece of a weight lies in the whole weight. -/
theorem col_idx (o : ℕ) (inb : ∀ a, (![0, 0, o] : Fin 3 → ℕ) a + (![1, 1024, 256] : Fin 3 → ℕ) a ≤ S1x1024x2816.size a)
    (k : Fin 1024) (q : Fin 256) (j : Fin 2816) (h : j.val = o + q.val) :
    (Rect.unit (s := S1x1024x2816) ![0, 0, o] ![1, 1024, 256] inb).idx (ix3 0 k q) = ix3 0 k j := by
  funext a
  refine Fin.ext ((Rect.idx_unit_val _ _ _ _ _).trans ?_)
  match a with
  | ⟨0, _⟩ => rfl
  | ⟨1, _⟩ => exact Nat.zero_add _
  | ⟨2, _⟩ => exact h.symm

section Pieces
variable (h : FVec Ideal S512x1024 .bf16) (a b : Vec Ideal S1x1024x256 .bf16)

/-- Each piece of the activation is the second's expression. -/
theorem piece0 (x n : FVec Ideal S512x1024 .f32) (u : Vec Ideal S1x1024 .f32) (v w : Vec Ideal S1x1x1024 .f32) :
    k0_pay5 x n u v w a b = k0_pay6 (k0_pay4 x n u v w) a b := rfl
/-- Another of those pieces. -/
theorem piece2 : k0_pay8 (k0_pay7 h a b) = k0_pay6 h a b := rfl
/-- Another of those pieces. -/
theorem piece3 : k0_pay9 h a b = k0_pay6 h a b := rfl
/-- Another of those pieces. -/
theorem piece4 : k0_pay14 (k0_pay10 h a) (k0_pay11 h b) (k0_pay12 h a) k0_pay13 = k0_pay6 h a b := rfl
/-- Another of those pieces. -/
theorem piece5 : k0_pay15 h a b = k0_pay6 h a b := rfl
/-- Another of those pieces. -/
theorem piece6 : k0_pay19 (k0_pay16 h a) (k0_pay17 h b) (k0_pay18 h a) = k0_pay6 h a b := rfl
/-- Another of those pieces. -/
theorem piece7 : k0_pay20 h a b = k0_pay6 h a b := rfl
/-- Another of those pieces. -/
theorem piece8 : k0_pay22 h (k0_pay21 h a) b = k0_pay6 h a b := rfl
/-- Another of those pieces. -/
theorem piece9 : k0_pay23 h a b = k0_pay6 h a b := rfl
/-- Another of those pieces. -/
theorem piece10 : k0_pay25 h (k0_pay24 a) b = k0_pay6 h a b := rfl

/-- One entry of a piece: the gate's dot product through the logistic, times the up projection's dot product. -/
theorem piece (p : Fin 512) (q : Fin 256) :
    k0_pay6 h a b (ix2 p q) = (∑ k : Fin 1024, h (ix2 p k) * a (ix3 0 k q))
          * Ideal.div 1 (1 + Ideal.exp (-(∑ k : Fin 1024, h (ix2 p k) * a (ix3 0 k q))))
          * (∑ k : Fin 1024, h (ix2 p k) * b (ix3 0 k q)) := by
  have z : ∀ z : EReal, 0 - z = -z := zero_sub
  pointwise [k0_pay6]
  rw [z]

/-- The same entry when the two weights' pieces are columns of whole weights. -/
theorem piece_of (U W : Vec Ideal S1x1024x2816 .bf16) (p : Fin 512) (q : Fin 256) (j : Fin 2816)
    (ha : ∀ k : Fin 1024, a (ix3 0 k q) = U (ix3 0 k j)) (hb : ∀ k : Fin 1024, b (ix3 0 k q) = W (ix3 0 k j)) :
    k0_pay6 h a b (ix2 p q) = (∑ k : Fin 1024, h (ix2 p k) * U (ix3 0 k j))
          * Ideal.div 1 (1 + Ideal.exp (-(∑ k : Fin 1024, h (ix2 p k) * U (ix3 0 k j))))
          * (∑ k : Fin 1024, h (ix2 p k) * W (ix3 0 k j)) := by
  rw [piece]
  simp only [ha, hb]

end Pieces

set_option maxHeartbeats 800000 in
/-- The result array of the launch is the plain computation of the arguments. -/
theorem final (c : Dev nD) : (dats m 0 c).arrAt 14 (cfgs 0).N
    = val_main_v67 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) := by
  refine (dats m 0 c).arrAt_eq_of_covers 14 _ (by decide +kernel) fun t _ y => ?_
  blk_simp
  rw [after0_14]; unfold outsAt0; frame_out
  obtain ⟨p, q, rfl⟩ : ∃ (p : Fin 512) (q : Fin 1024), y = ix2 p q := ⟨y 0, y 1, eq_ix2 (n0 := 512) (n1 := 1024) y⟩
  have ht : t.val < 64 := t.isLt
  rw [show ((View.whole main_v13).slice (win0_14.rect t)).emb (ix2 p q)
    = ix2 (⟨t.val * 512 + p.val, by omega⟩ : Fin 32768) q by blk_ext [idx t]]
  simp only [piece0, piece2, piece3, piece4, piece5, piece6, piece7, piece8, piece9, piece10]
  generalize e1 : k0_pay4 (F := Ideal) _ _ _ _ _ = HM
  have e1' : HM = hmT m c t := by rw [← e1]; rfl
  generalize e2 : k0_pay2 (F := Ideal) _ _ _ _ _ _ _ _ = X1
  have e2' : X1 = x1T m c t := by rw [← e2]; rfl
  subst e1' e2'
  clear e1 e2
  generalize hA : View.readCov (Val := Elt Ideal) _ _ _ = A
  have hact : ∀ (p : Fin 512) (j : Fin 2816), A (ix2 p j) = (∑ k : Fin 1024, hmT m c t (ix2 p k) * iblk m c 11 t (ix3 0 k j))
          * Ideal.div 1 (1 + Ideal.exp (-(∑ k : Fin 1024, hmT m c t (ix2 p k) * iblk m c 11 t (ix3 0 k j))))
          * (∑ k : Fin 1024, hmT m c t (ix2 p k) * iblk m c 12 t (ix3 0 k j)) := by
    intro p j
    rw [← hA, View.readCov_eq_canon_ld]
    swap
    · intro y
      exact View.cover_of_tiled_head _ _ _ (by rfl) y
    refine (congrFun (View.ld_unit_zero (S := S512x2816) (by decide) _ _) _).trans ?_
    generalize hx : (ix2 p j : S512x2816.Idx) = x
    canon_tiles x h
    all_goals
      subst hx
      obtain ⟨p', q', rfl⟩ : ∃ (p' : Fin 512) (q' : Fin 256), x = ix2 p' q' := ⟨x 0, x 1, eq_ix2 (n0 := 512) (n1 := 256) x⟩
      obtain rfl : p = p' := Fin.ext h0
      have ej : ((ix2 p j : S512x2816.Idx) 1).val = j.val := rfl
      have eq : ((ix2 p q' : S512x256.Idx) 1).val = q'.val := rfl
      rw [ej, eq] at h1
      clear hA
      refine piece_of _ _ _ _ _ p q' j (fun k => ?_) (fun k => ?_)
      · refine congrArg (iblk m c 11 t) (col_idx _ _ k q' j ?_)
        omega
      · refine congrArg (iblk m c 12 t) (col_idx _ _ k q' j ?_)
        omega
  clear hA
  obtain ⟨b, hb⟩ : ∃ b : Fin 8, b.val = t.val / 8 := ⟨⟨t.val / 8, by omega⟩, rfl⟩
  obtain ⟨s, hs⟩ : ∃ s : Fin 4096, s.val = t.val % 8 * 512 + p.val := ⟨⟨t.val % 8 * 512 + p.val, by omega⟩, rfl⟩
  have h1 := fun k => row1 m c t p k b s hb hs
  have h2 := fun k => row2 m c t p k b s hb hs
  have h3 : ∀ j, A (ix2 p j) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (ix3 b s j) := by
    intro j
    rw [hact, act_ref]
    simp only [h2]
    blk_point [iblk, V, idx t]
  rw [show (ix2 (⟨t.val * 512 + p.val, by omega⟩ : Fin 32768) q) = ix2 (⟨b.val * 4096 + s.val, by omega⟩ : Fin 32768) q by
    blk_ext]
  have h4 : val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨b.val * 4096 + s.val, by omega⟩ : Fin 32768) q)
      = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 b s q) := by
    pointwise [val_main_v67]
  rw [h4]
  clear h4 hact
  pointwise [k0_pay1, k0_pay26, h1, h3, val_main_v66, val_main_v65, val_main_v64, val_main_v63, val_main_v62, val_main_v61, val_main_v60, val_main_v59,
    val_main_cst_5, val_main_v58, val_main_v57, val_main_cst_4, val_main_v56, val_main_v55, val_main_cst_3, val_main_v54, val_main_v53,
    val_main_v52, val_main_v51, val_main_v50, val_main_v45, val_main_v44, val_main_v8, val_main_v2, val_main_v1, val_main_v0]
  blk_point [iblk, V, idx t]

end Cert.Kernel2Ideal.Ffn

end
-- ==== Proof.AttnRow.lean ====
module

public import proofs.«01_k».proof.Proof.Gen.KernelIdeal.Frame
public import Idealize.ShloMosaic.Lib.Pipeline.Value

@[expose] public section

set_option maxRecDepth 16384

noncomputable section

namespace Cert.KernelIdeal.Attn

open Idealize.ShloMosaic Idealize.ShloMosaic.TcCoe Cert.KernelIdeal Cert.KernelIdeal.Gen

/-- What one trip reads: its 32 query rows, their key and value windows, the four table chunks of each row, and the
context's keys and values. -/
structure Inp where
  q : Fin 32 → Vec Ideal S1x64x128 .bf16
  kw : Fin 32 → Vec Ideal S1x512x128 .bf16
  vw : Fin 32 → Vec Ideal S1x512x128 .bf16
  tb : Fin 32 → Fin 4 → Vec Ideal S1x1x128x128 .f32
  kc : Vec Ideal S1x256x128 .bf16
  vc : Vec Ideal S1x256x128 .bf16

/-- The lanes of a pair's first head. -/
def lo : IVec S64x128 1 := broadcastTo S64x128 (shapeCast S1x128 k1_pay1 shapeCasts_S1x128_S1x128) broadcasts_S1x128_S64x128

/-- A query row with the lanes of the other head at zero. -/
def half (q : Vec Ideal S1x64x128 .bf16) (h : Bool) : FVec Ideal S64x128 .bf16 :=
  bif h then select lo (broadcast S64x128 (FloatOps.ofBits .bf16 0#16)) (shapeCast S64x128 q shapeCasts_S1x64x128_S64x128)
  else select lo (shapeCast S64x128 q shapeCasts_S1x64x128_S64x128) (broadcast S64x128 (FloatOps.ofBits .bf16 0#16))

/-- The numbers of the query halves. -/
def f64 : List (Fin 64) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]
/-- The numbers of the rows. -/
def f32 : List (Fin 32) := [0, 1, 2, 3, 4, 5, 6, 7, 8, 9, 10, 11, 12, 13, 14, 15, 16, 17, 18, 19, 20, 21, 22, 23, 24, 25, 26, 27, 28, 29, 30, 31]

/-- The list of the halves is all numbers below 64. -/
theorem f64_eq : f64 = List.finRange 64 := by decide
/-- The list of the rows is all numbers below 32. -/
theorem f32_eq : f32 = List.finRange 32 := by decide

/-- Blocks of one shape concatenate however they are filled. -/
theorem concAll {ι : Type} {l : List ι} {s t : Shape} {a : Fin t.rank} (f : ι → s.Idx → Ideal .bf16)
    (h : Shape.Concatenates (List.replicate l.length s) t a) :
    Shape.Concatenates ((l.map fun i => (⟨s, f i⟩ : (s : Shape) × (s.Idx → Ideal .bf16))).map (·.1)) t a := by
  have e : (l.map fun i => (⟨s, f i⟩ : (s : Shape) × (s.Idx → Ideal .bf16))).map (·.1) = List.replicate l.length s := by
    rw [List.map_map]; exact List.map_const
  rw [e]; exact h

variable (I : Inp)

/-- The rows of queries stacked, two halves each. -/
def qs : FVec Ideal S4096x128 .bf16 :=
  concatenate S4096x128 0 (f64.map fun n => (⟨S64x128, half (I.q ⟨n.val / 2, by omega⟩) (n.val % 2 == 1)⟩ : (s : Shape) × (s.Idx → Ideal .bf16)))
    (concAll _ (by decide))

/-- The context's keys as a matrix. -/
def kcm : FVec Ideal S256x128 .bf16 := shapeCast S256x128 I.kc shapeCasts_S1x256x128_S256x128

/-- The context's values as a matrix. -/
def vcm : FVec Ideal S256x128 .bf16 := shapeCast S256x128 I.vc shapeCasts_S1x256x128_S256x128

/-- The scores against the context. -/
def sx : FVec Ideal S4096x256 .f32 :=
  matmul dot_S4096x128_S256x128_S4096x256_1_1_0_0_n_n none (qs I) (kcm I) (constant S4096x256 .f32 0#32)

/-- The slice of a row out of the stacked queries lies inside. -/
theorem sl128 (r : Fin 32) : S4096x128.Slices ![128 * r.val, 0] S128x128 := by revert r; decide
/-- The slice of a row out of the stacked context scores lies inside. -/
theorem sl256 (r : Fin 32) : S4096x256.Slices ![128 * r.val, 0] S128x256 := by revert r; decide

/-- The table chunks of a row side by side. -/
def bias (r : Fin 32) : FVec Ideal S128x512 .f32 :=
  concatenate S128x512 1 [⟨S128x128, shapeCast S128x128 (I.tb r 0) shapeCasts_S1x1x128x128_S128x128⟩,
    ⟨S128x128, shapeCast S128x128 (I.tb r 1) shapeCasts_S1x1x128x128_S128x128⟩,
    ⟨S128x128, shapeCast S128x128 (I.tb r 2) shapeCasts_S1x1x128x128_S128x128⟩,
    ⟨S128x128, shapeCast S128x128 (I.tb r 3) shapeCasts_S1x1x128x128_S128x128⟩] concatenates_S128x128_S128x128_S128x128_S128x128_S128x512_d1

/-- A row's scores against its window. -/
def sw (r : Fin 32) : FVec Ideal S128x512 .f32 :=
  addf (matmul dot_S128x128_S512x128_S128x512_1_1_0_0_n_n none (extractStridedSlice S128x128 ![128 * r.val, 0] (qs I) (sl128 r))
    (shapeCast S512x128 (I.kw r) shapeCasts_S1x512x128_S512x128 : FVec Ideal S512x128 .bf16) (constant S128x512 .f32 0#32)) (bias I r)

/-- A row's scores against the context. -/
def sxr (r : Fin 32) : FVec Ideal S128x256 .f32 := extractStridedSlice S128x256 ![128 * r.val, 0] (sx I) (sl256 r)

/-- A row's largest scores. -/
def mx (r : Fin 32) : FVec Ideal S128x1 .f32 :=
  maximumf (shapeCast S128x1 (multiReduction .maximumf [1] S128 (sw I r) 0xFF800000#32 reduces_S128x512_S128 (.inl rfl) rfl) shapeCasts_S128_S128x1)
    (shapeCast S128x1 (multiReduction .maximumf [1] S128 (sxr I r) 0xFF800000#32 reduces_S128x256_S128 (.inl rfl) rfl) shapeCasts_S128_S128x1)

/-- A row's weights on its window. -/
def pw (r : Fin 32) : FVec Ideal S128x512 .f32 := exp (subf (sw I r) (broadcastTo S128x512 (mx I r) broadcasts_S128x1_S128x512))

/-- A row's weights on the context. -/
def px (r : Fin 32) : FVec Ideal S128x256 .f32 := exp (subf (sxr I r) (broadcastTo S128x256 (mx I r) broadcasts_S128x1_S128x256))

/-- One over a row's sum of weights. -/
def il (r : Fin 32) : FVec Ideal S128x1 .f32 :=
  divf (broadcast S128x1 (FloatOps.ofBits .f32 1065353216#32))
    (addf (shapeCast S128x1 (multiReduction .add [1] S128 (pw I r) 0#32 reduces_S128x512_S128 (.inl rfl) rfl) shapeCasts_S128_S128x1)
      (shapeCast S128x1 (multiReduction .add [1] S128 (px I r) 0#32 reduces_S128x256_S128 (.inl rfl) rfl) shapeCasts_S128_S128x1))

/-- The weights on the context, all rows. -/
def pxs : FVec Ideal S4096x256 .bf16 :=
  concatenate S4096x256 0 (f32.map fun n => (⟨S128x256, truncf .bf16 (px I n) bitsLt_bf16_f32⟩ : (s : Shape) × (s.Idx → Ideal .bf16)))
    (concAll _ (by decide))

/-- The context's share of the output, all rows. -/
def oc : FVec Ideal S4096x128 .f32 :=
  matmul dot_S4096x256_S256x128_S4096x128_1_0_0_1_n_n none (pxs I) (vcm I) (constant S4096x128 .f32 0#32)

/-- A row's output, both heads stacked. -/
def oo (r : Fin 32) : FVec Ideal S128x128 .f32 :=
  mulf (addf (matmul dot_S128x512_S512x128_S128x128_1_0_0_1_n_n none (truncf .bf16 (pw I r) bitsLt_bf16_f32 : FVec Ideal S128x512 .bf16)
      (shapeCast S512x128 (I.vw r) shapeCasts_S1x512x128_S512x128 : FVec Ideal S512x128 .bf16) (constant S128x128 .f32 0#32))
    (extractStridedSlice S128x128 ![128 * r.val, 0] (oc I) (sl128 r))) (broadcastTo S128x128 (il I r) broadcasts_S128x1_S128x128)

/-- A row's output as stored. -/
def ro (r : Fin 32) : FVec Ideal S1x64x128 .bf16 :=
  shapeCast S1x64x128 (truncf .bf16 (select lo (extractStridedSlice S64x128 ![0, 0] (oo I r) slices_S128x128_o0_0_S64x128)
    (extractStridedSlice S64x128 ![64, 0] (oo I r) slices_S128x128_o64_0_S64x128)) bitsLt_bf16_f32) shapeCasts_S64x128_S1x64x128

variable (arg2 : Memref sig .tc .vmem S1x4096x128 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x256x128 .bf16) (harg5 : arg5.IsWhole)
  (arg6 : Memref sig .tc .vmem S1x256x128 .bf16) (harg6 : arg6.IsWhole) (arg7 : Memref sig .tc .vmem S1x14x128x128 .f32) (harg7 : arg7.IsWhole)
  (arg8 : Memref sig .tc .vmem S1x4096x128 .bf16) (harg8 : arg8.IsWhole)
  (v3 v5 : Vec Ideal S1x256x128 .bf16) (X2 : arg2.view.ty.Contents (Elt Ideal)) (X3 : arg3.view.ty.Contents (Elt Ideal))
  (X4 : arg4.view.ty.Contents (Elt Ideal)) (X7 : arg7.view.ty.Contents (Elt Ideal)) (k : Fin k1_t1_loop.trips)

/-- What trip `k` reads out of the buffers. -/
def inp : Inp where
  q r := View.readAt (Elt Ideal) arg2.view (Rect.unit (s := S1x4096x128) (k1_off1 k (BitVec.ofNat 32 r.val)) S1x64x128.size (k1_off1_inb k r)).toLoadRect X2
  kw r := View.readAt (Elt Ideal) arg3.view (Rect.unit (s := S1x4096x128) (k1_off2 k (BitVec.ofNat 32 r.val)) S1x512x128.size (k1_off2_inb k r)).toLoadRect X3
  vw r := View.readAt (Elt Ideal) arg4.view (Rect.unit (s := S1x4096x128) (k1_off2 k (BitVec.ofNat 32 r.val)) S1x512x128.size (k1_off2_inb k r)).toLoadRect X4
  tb r c := View.readAt (Elt Ideal) arg7.view (Rect.unit (s := S1x14x128x128) (k1_off3 k (BitVec.ofNat 32 r.val) (BitVec.ofNat 32 (2 * c.val))) S1x1x128x128.size (k1_off3_inb k r c)).toLoadRect X7
  kc := v3
  vc := v5

/-- Row `r` of trip `k` stored at its place. -/
def pieceAt (v : FVec Ideal S1x64x128 .bf16) (r : Fin 32) : View.Piece (Elt Ideal) S1x4096x128 .bf16 :=
  ⟨Rect.unit (s := S1x4096x128) (k1_off1 k (BitVec.ofNat 32 r.val)) S1x64x128.size (k1_off1_inb k r), v⟩

/-- The pieces a trip stores, last row first. -/
def pieces : List (View.Piece (Elt Ideal) S1x4096x128 .bf16) :=
  f32.reverse.map fun r => pieceAt k (ro (inp arg2 arg3 arg4 arg7 v3 v5 X2 X3 X4 X7 k) r) r

set_option maxHeartbeats 1000000 in
/-- A trip's stored pieces are the rows' outputs. -/
theorem trip_eq (𝒱 : Variants) (c : Dev nD) (bd : Option 𝒱.V) (i : grid1.Coords) :
    tripL_k1_t1 (F := Ideal) 𝒱 c bd i arg2 harg2 arg3 harg3 arg4 harg4 arg5 harg5 arg6 harg6 arg7 harg7 arg8 harg8 v3 v5 X2 X3 X4 X7 k
      = pieces arg2 arg3 arg4 arg7 v3 v5 X2 X3 X4 X7 k := by
  sl_kernel_rfl

end Cert.KernelIdeal.Attn
-- ==== Proof.AttnVal.lean ====
/- What one row of the attention's trip stores, element by element. -/
module
public import proofs.«01_k».proof.Proof.AttnRow
public import Idealize.ShloMosaic.Lib.Pipeline.ValueKit
@[expose] public section
set_option maxRecDepth 16384
noncomputable section
namespace Cert.KernelIdeal.Attn
open Idealize.ShloMosaic Idealize.ShloMosaic.TcCoe Cert.KernelIdeal Cert.KernelIdeal.Gen

/-- The word of a lane below 64. -/
theorem lane_word : ∀ κ : Fin 128, IntOp.cmpi CmpIPredicate.slt (BitVec.ofNat 32 κ.val) 64#32 = if κ.val < 64 then 1#1 else 0#1 := by decide

/-- A choice by lane is a choice by the lane's number. -/
theorem sel_lane {α : Type} (κ : Fin 128) (a b : α) :
    Scalar.select (IntOp.cmpi CmpIPredicate.slt (BitVec.ofNat 32 κ.val) 64#32) a b = if κ.val < 64 then a else b := by
  rw [lane_word κ]
  split <;> rfl

/-- Equal lists have equal concatenations. -/
theorem conc_congr {α : Type} {t : Shape} {a : Fin t.rank} {l l' : List ((s : Shape) × (s.Idx → α))} (e : l = l')
    (h : Shape.Concatenates (l.map (·.1)) t a) (h' : Shape.Concatenates (l'.map (·.1)) t a) :
    concatenate t a l h = concatenate t a l' h' := by
  subst e; rfl

variable (I : Inp)

/-- The reciprocal of a stacked row's sum of exponentials, over the window and the context. -/
theorem il_apply (r : Fin 32) (p : Fin 128) (z : Fin 1) :
    il I r (ix2 p z) = Ideal.div 1 (∑ x, pw I r (ix2 p x) + ∑ x, px I r (ix2 p x)) := by
  pointwise [il]

/-- The largest score of a stacked row, over the window and the context. -/
theorem mx_apply (r : Fin 32) (p : Fin 128) (z : Fin 1) :
    mx I r (ix2 p z) = max (Finset.fold max (Ideal.ofBits FTy.f32 4286578688#32) (fun x => sw I r (ix2 p x)) Finset.univ)
      (Finset.fold max (Ideal.ofBits FTy.f32 4286578688#32) (fun x => sxr I r (ix2 p x)) Finset.univ) := by
  pointwise [mx]

/-- The exponential of a window score, less the row's largest. -/
theorem pw_apply (r : Fin 32) (p : Fin 128) (κ : Fin 512) :
    pw I r (ix2 p κ) = Ideal.exp (sw I r (ix2 p κ) - mx I r (ix2 p 0)) := by
  pointwise [pw]

/-- The exponential of a context score, less the row's largest. -/
theorem px_apply (r : Fin 32) (p : Fin 128) (κ : Fin 256) :
    px I r (ix2 p κ) = Ideal.exp (sxr I r (ix2 p κ) - mx I r (ix2 p 0)) := by
  pointwise [px]

/-- Half `h` of a query row: the lanes of head `h`, zero elsewhere. -/
def hq (q : Vec Ideal S1x64x128 .bf16) (p : Fin 128) (e : Fin 128) : EReal :=
  if p.val / 64 = e.val / 64 then q (ix3 0 ⟨p.val % 64, by omega⟩ e) else 0

/-- The first half of a query row keeps the lanes below 64. -/
theorem half_false (q : Vec Ideal S1x64x128 .bf16) (p : Fin 64) (e : Fin 128) :
    half q false (ix2 p e) = if e.val < 64 then q (ix3 0 p e) else 0 := by
  have : half q false = select lo (shapeCast S64x128 q shapeCasts_S1x64x128_S64x128) (broadcast S64x128 (FloatOps.ofBits (F := Ideal) .bf16 0#16 : Ideal .bf16)) := rfl
  rw [this]
  pointwise [lo, k1_pay1]
  exact sel_lane e _ _

/-- The second half of a query row keeps the lanes from 64 on. -/
theorem half_true (q : Vec Ideal S1x64x128 .bf16) (p : Fin 64) (e : Fin 128) :
    half q true (ix2 p e) = if e.val < 64 then 0 else q (ix3 0 p e) := by
  have : half q true = select lo (broadcast S64x128 (FloatOps.ofBits (F := Ideal) .bf16 0#16 : Ideal .bf16)) (shapeCast S64x128 q shapeCasts_S1x64x128_S64x128) := rfl
  rw [this]
  pointwise [lo, k1_pay1]
  exact sel_lane e _ _

/-- An entry of the stacked queries is that of the half of its row. -/
theorem qs_apply (r : Fin 32) (p : Fin 128) (e : Fin 128) (h : 128 * r.val + p.val < 4096) :
    qs I (ix2 ⟨128 * r.val + p.val, h⟩ e) = hq (I.q r) p e := by
  have e1 : qs I = concatenate S4096x128 0 (List.ofFn fun n : Fin 64 => (⟨S64x128, half (I.q ⟨n.val / 2, by omega⟩) (n.val % 2 == 1)⟩ : (s : Shape) × (s.Idx → Ideal .bf16)))
      (by rw [List.ofFn_eq_map, ← f64_eq]; exact concAll _ (by decide)) := by
    unfold qs
    refine conc_congr ?_ _ _
    rw [List.ofFn_eq_map, ← f64_eq]
  rw [e1]
  refine (concatenate_ofFn_apply (t := S4096x128) (s₁ := S64x128) 0 (N := 64) (fun n => half (I.q ⟨n.val / 2, by omega⟩) (n.val % 2 == 1)) _ rfl 64 rfl
    (ix2 ⟨128 * r.val + p.val, h⟩ e) ⟨2 * r.val + p.val / 64, by omega⟩ ?_ (ix2 ⟨p.val % 64, by omega⟩ e) ?_ ?_).trans ?_
  · show (128 * r.val + p.val) / 64 = 2 * r.val + p.val / 64
    omega
  · show p.val % 64 = (128 * r.val + p.val) % 64
    omega
  · intro b hb
    match b with
    | ⟨0, _⟩ => exact absurd rfl hb
    | ⟨1, _⟩ => rfl
  · have er : (⟨(2 * r.val + p.val / 64) / 2, by omega⟩ : Fin 32) = r := Fin.ext (by show (2 * r.val + p.val / 64) / 2 = r.val; omega)
    show half (I.q ⟨(2 * r.val + p.val / 64) / 2, _⟩) ((2 * r.val + p.val / 64) % 2 == 1) _ = _
    rw [er]
    unfold hq
    rcases Nat.lt_or_ge p.val 64 with hp | hp
    · have : (2 * r.val + p.val / 64) % 2 = 0 := by omega
      rw [this]
      refine (half_false _ _ _).trans ?_
      have : (e.val < 64) ↔ (p.val / 64 = e.val / 64) := by omega
      simp only [this]
    · have : (2 * r.val + p.val / 64) % 2 = 1 := by omega
      rw [this]
      refine (half_true _ _ _).trans ?_
      have : ¬ (e.val < 64) ↔ (p.val / 64 = e.val / 64) := by omega
      simp only [← this, ite_not]

/-- The table entry of a row for window key `κ`. -/
def tbv (r : Fin 32) (p : Fin 128) (κ : Fin 512) : EReal :=
  I.tb r ⟨κ.val / 128, by omega⟩ (ix4 0 0 p ⟨κ.val % 128, by omega⟩)

/-- An entry of the bias laid side by side is the table entry of its chunk. -/
theorem bias_apply (r : Fin 32) (p : Fin 128) (κ : Fin 512) : bias I r (ix2 p κ) = tbv I r p κ := by
  pointwise [bias]
  have key : ∀ (c : Fin 4) (x : Fin 128), c.val = κ.val / 128 → x.val = κ.val % 128 →
      I.tb r c (ix4 0 0 p x) = tbv I r p κ := by
    intro c x hc hx
    unfold tbv
    rw [show c = ⟨κ.val / 128, by omega⟩ from Fin.ext hc, show x = ⟨κ.val % 128, by omega⟩ from Fin.ext hx]
  split
  · exact key _ _ (by show 0 = _; omega) (by show κ.val = _; omega)
  · split
    · exact key _ _ (by show 1 = _; omega) (by show κ.val - 128 = _; omega)
    · split
      · exact key _ _ (by show 2 = _; omega) (by show κ.val - 128 - 128 = _; omega)
      · exact key _ _ (by show 3 = _; omega) (by show κ.val - 128 - 128 - 128 = _; omega)

/-- A window score: the half query times the key, plus the table entry. -/
theorem sw_apply (r : Fin 32) (p : Fin 128) (κ : Fin 512) :
    sw I r (ix2 p κ) = ∑ x, hq (I.q r) p x * I.kw r (ix3 0 κ x) + tbv I r p κ := by
  pointwise [sw]
  simp only [qs_apply, bias_apply]

/-- A context score: the half query times the context key. -/
theorem sxr_apply (r : Fin 32) (p : Fin 128) (κ : Fin 256) :
    sxr I r (ix2 p κ) = ∑ x, hq (I.q r) p x * I.kc (ix3 0 κ x) := by
  pointwise [sxr, sx, kcm]
  simp only [qs_apply]

/-- An entry of the stacked context exponentials is that of its row. -/
theorem pxs_apply (r : Fin 32) (p : Fin 128) (e : Fin 256) (h : 128 * r.val + p.val < 4096) :
    pxs I (ix2 ⟨128 * r.val + p.val, h⟩ e) = px I r (ix2 p e) := by
  have e1 : pxs I = concatenate S4096x256 0 (List.ofFn fun n : Fin 32 => (⟨S128x256, truncf .bf16 (px I n) bitsLt_bf16_f32⟩ : (s : Shape) × (s.Idx → Ideal .bf16)))
      (by rw [List.ofFn_eq_map, ← f32_eq]; exact concAll _ (by decide)) := by
    unfold pxs
    refine conc_congr ?_ _ _
    rw [List.ofFn_eq_map, ← f32_eq]
  rw [e1]
  refine (concatenate_ofFn_apply (t := S4096x256) (s₁ := S128x256) 0 (N := 32) (fun n => truncf .bf16 (px I n) bitsLt_bf16_f32) _ rfl 128 rfl
    (ix2 ⟨128 * r.val + p.val, h⟩ e) r ?_ (ix2 p e) ?_ ?_).trans ?_
  · show (128 * r.val + p.val) / 128 = r.val
    omega
  · show p.val = (128 * r.val + p.val) % 128
    omega
  · intro b hb
    match b with
    | ⟨0, _⟩ => exact absurd rfl hb
    | ⟨1, _⟩ => rfl
  · pointwise []

/-- The weighted values of window and context, times the reciprocal of the sum. -/
theorem oo_apply (r : Fin 32) (p : Fin 128) (d : Fin 128) :
    oo I r (ix2 p d) = (∑ x, pw I r (ix2 p x) * I.vw r (ix3 0 x d) + ∑ x, px I r (ix2 p x) * I.vc (ix3 0 x d)) * il I r (ix2 p 0) := by
  pointwise [oo, oc, vcm]
  simp only [pxs_apply]

/-- What is stored for query `p`, lane `d`: the stacked row of the lane's head. -/
theorem ro_apply (r : Fin 32) (p : Fin 64) (d : Fin 128) :
    ro I r (ix3 0 p d) = oo I r (ix2 ⟨d.val / 64 * 64 + p.val, by omega⟩ d) := by
  pointwise [ro, lo, k1_pay1]
  refine (sel_lane d _ _).trans ?_
  split
  · congr 2; exact Fin.ext (by show p.val = d.val / 64 * 64 + p.val; omega)
  · congr 2; exact Fin.ext (by show 64 + p.val = d.val / 64 * 64 + p.val; omega)

end Cert.KernelIdeal.Attn
-- ==== Proof.AttnBlk.lean ====
/- The attention's output block, element by element. -/
module
public import proofs.«01_k».proof.Proof.AttnVal
public import Idealize.ShloMosaic.Lib.Pipeline.ValueKit
public import Idealize.ShloMosaic.Lib.WholeRead
@[expose] public section
set_option maxRecDepth 16384
noncomputable section
namespace Cert.KernelIdeal.Attn
open Idealize.ShloMosaic Idealize.ShloMosaic.TcCoe Cert.KernelIdeal Cert.KernelIdeal.Gen

/-- The first row of the window of grid row `R`. -/
def rs (R : ℕ) : ℕ := min 56 (R - 4)

/-- Where a trip's row starts. -/
theorem off1 : ∀ (k : Fin k1_t1_loop.trips) (r : Fin 32), k1_off1 k (BitVec.ofNat 32 r.val) = ![0, 64 * (32 * k.val + r.val), 0] := by decide

/-- Where a row's window starts. -/
theorem off2 : ∀ (k : Fin k1_t1_loop.trips) (r : Fin 32), k1_off2 k (BitVec.ofNat 32 r.val) = ![0, 64 * rs (32 * k.val + r.val), 0] := by decide

/-- Which entry of the table a row's chunk reads. -/
theorem off3 : ∀ (k : Fin k1_t1_loop.trips) (r : Fin 32) (c : Fin 4), k1_off3 k (BitVec.ofNat 32 r.val) (BitVec.ofNat 32 (2 * c.val))
    = ![0, 7 + rs (32 * k.val + r.val) + 2 * c.val - (32 * k.val + r.val), 0, 0] := by decide

variable (arg2 : Memref sig .tc .vmem S1x4096x128 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x256x128 .bf16) (harg5 : arg5.IsWhole)
  (arg6 : Memref sig .tc .vmem S1x256x128 .bf16) (harg6 : arg6.IsWhole) (arg7 : Memref sig .tc .vmem S1x14x128x128 .f32) (harg7 : arg7.IsWhole)
  (arg8 : Memref sig .tc .vmem S1x4096x128 .bf16) (harg8 : arg8.IsWhole)
  (x0 x1 x2 : Vec Ideal S1x4096x128 .bf16) (x3 x4 : Vec Ideal S1x256x128 .bf16) (x5 : Vec Ideal S1x14x128x128 .f32)

/-- A whole context block as the body loads it. -/
def ctx (m : Memref sig .tc .vmem S1x256x128 .bf16) (h : m.IsWhole) (x : Vec Ideal S1x256x128 .bf16) : Vec Ideal S1x256x128 .bf16 :=
  View.readAt (Elt Ideal) m.view (Rect.unit (s := S1x256x128) ![0, 0, 0] S1x256x128.size inb_S1x256x128_S1x256x128_0_0_0).toLoadRect (h.unread x)

/-- One trip's pieces, of the blocks. -/
def trip (k : Fin k1_t1_loop.trips) : List (View.Piece (Elt Ideal) S1x4096x128 .bf16) :=
  pieces arg2 arg3 arg4 arg7 (ctx arg5 harg5 x3) (ctx arg6 harg6 x4) (harg2.unread x0) (harg3.unread x1) (harg4.unread x2) (harg7.unread x5) k

set_option maxHeartbeats 1000000 in
/-- The body's stored pieces are those of its two trips. -/
theorem run_pieces (c : Dev nD) (i : grid1.Coords) :
    (kernelRun1_A (F := Ideal) c i arg2 harg2 arg3 harg3 arg4 harg4 arg5 harg5 arg6 harg6 arg7 harg7 arg8 harg8 x0 x1 x2 x3 x4 x5).1
      = trip arg2 harg2 arg3 harg3 arg4 harg4 arg5 harg5 arg6 harg6 arg7 harg7 x0 x1 x2 x3 x4 x5 ⟨1, by decide⟩
        ++ (trip arg2 harg2 arg3 harg3 arg4 harg4 arg5 harg5 arg6 harg6 arg7 harg7 x0 x1 x2 x3 x4 x5 ⟨0, by decide⟩ ++ []) := by
  sl_kernel_rfl

/-- Token `κ` of the window of grid row `R`. -/
def tok (R : Fin 64) (κ : Fin 512) : Fin 4096 := ⟨64 * rs R.val + κ.val, by unfold rs; omega⟩

/-- Lane `e` of head half `p / 64` of the query at grid row `R` and column `p % 64`, zero in the other half. -/
def hqb (R : Fin 64) (p e : Fin 128) : EReal :=
  if p.val / 64 = e.val / 64 then x0 (ix3 0 ⟨64 * R.val + p.val % 64, by omega⟩ e) else 0

/-- The score of window key `κ`. -/
def sK (R : Fin 64) (p : Fin 128) (κ : Fin 512) : EReal :=
  ∑ x, hqb x0 R p x * x1 (ix3 0 (tok R κ) x) + x5 (ix4 0 ⟨7 + rs R.val + 2 * (κ.val / 128) - R.val, by unfold rs; omega⟩ p ⟨κ.val % 128, by omega⟩)

/-- The score of context key `l`. -/
def cK (R : Fin 64) (p : Fin 128) (l : Fin 256) : EReal := ∑ x, hqb x0 R p x * x3 (ix3 0 l x)

/-- The largest score. -/
def mK (R : Fin 64) (p : Fin 128) : EReal :=
  max (Finset.fold max (Ideal.ofBits FTy.f32 4286578688#32) (fun κ => sK x0 x1 x5 R p κ) Finset.univ)
    (Finset.fold max (Ideal.ofBits FTy.f32 4286578688#32) (fun l => cK x0 x3 R p l) Finset.univ)

/-- The attention of one query and lane. -/
def oK (R : Fin 64) (p d : Fin 128) : EReal :=
  (∑ κ, Ideal.exp (sK x0 x1 x5 R p κ - mK x0 x1 x3 x5 R p) * x2 (ix3 0 (tok R κ) d)
      + ∑ l, Ideal.exp (cK x0 x3 R p l - mK x0 x1 x3 x5 R p) * x4 (ix3 0 l d))
    * Ideal.div 1 (∑ κ, Ideal.exp (sK x0 x1 x5 R p κ - mK x0 x1 x3 x5 R p) + ∑ l, Ideal.exp (cK x0 x3 R p l - mK x0 x1 x3 x5 R p))

section
variable (k : Fin k1_t1_loop.trips) (r : Fin 32)

/-- The grid row of a trip's row. -/
def gr : Fin 64 := ⟨32 * k.val + r.val, by have : k.val < 2 := k.isLt; omega⟩

/-- The trip's inputs. -/
abbrev In : Inp :=
  inp arg2 arg3 arg4 arg7 (ctx arg5 harg5 x3) (ctx arg6 harg6 x4) (harg2.unread x0) (harg3.unread x1) (harg4.unread x2) (harg7.unread x5) k

/-- The trip's query rows. -/
theorem q_apply (p : Fin 64) (e : Fin 128) :
    (In arg2 harg2 arg3 harg3 arg4 harg4 arg5 harg5 arg6 harg6 arg7 harg7 x0 x1 x2 x3 x4 x5 k).q r (ix3 0 p e) = x0 (ix3 0 ⟨64 * (gr k r).val + p.val, by omega⟩ e) := by
  refine (Memref.IsWhole.readAt_unread harg2 x0 _ _).trans (congrArg x0 (funext fun a => Fin.ext ?_))
  have h := off1 k r
  match a with
  | ⟨0, _⟩ => show k1_off1 k (BitVec.ofNat 32 r.val) 0 + 1 * 0 = 0; rw [h]; rfl
  | ⟨1, _⟩ => show k1_off1 k (BitVec.ofNat 32 r.val) 1 + 1 * p.val = 64 * (32 * k.val + r.val) + p.val; rw [h]; show 64 * (32 * k.val + r.val) + 1 * p.val = _; omega
  | ⟨2, _⟩ => show k1_off1 k (BitVec.ofNat 32 r.val) 2 + 1 * e.val = e.val; rw [h]; show 0 + 1 * e.val = _; omega

/-- The trip's key windows. -/
theorem kw_apply (κ : Fin 512) (e : Fin 128) :
    (In arg2 harg2 arg3 harg3 arg4 harg4 arg5 harg5 arg6 harg6 arg7 harg7 x0 x1 x2 x3 x4 x5 k).kw r (ix3 0 κ e) = x1 (ix3 0 (tok (gr k r) κ) e) := by
  refine (Memref.IsWhole.readAt_unread harg3 x1 _ _).trans (congrArg x1 (funext fun a => Fin.ext ?_))
  have h := off2 k r
  match a with
  | ⟨0, _⟩ => show k1_off2 k (BitVec.ofNat 32 r.val) 0 + 1 * 0 = 0; rw [h]; rfl
  | ⟨1, _⟩ => show k1_off2 k (BitVec.ofNat 32 r.val) 1 + 1 * κ.val = 64 * rs (32 * k.val + r.val) + κ.val; rw [h]; show 64 * rs (32 * k.val + r.val) + 1 * κ.val = _; omega
  | ⟨2, _⟩ => show k1_off2 k (BitVec.ofNat 32 r.val) 2 + 1 * e.val = e.val; rw [h]; show 0 + 1 * e.val = _; omega

/-- The trip's value windows. -/
theorem vw_apply (κ : Fin 512) (e : Fin 128) :
    (In arg2 harg2 arg3 harg3 arg4 harg4 arg5 harg5 arg6 harg6 arg7 harg7 x0 x1 x2 x3 x4 x5 k).vw r (ix3 0 κ e) = x2 (ix3 0 (tok (gr k r) κ) e) := by
  refine (Memref.IsWhole.readAt_unread harg4 x2 _ _).trans (congrArg x2 (funext fun a => Fin.ext ?_))
  have h := off2 k r
  match a with
  | ⟨0, _⟩ => show k1_off2 k (BitVec.ofNat 32 r.val) 0 + 1 * 0 = 0; rw [h]; rfl
  | ⟨1, _⟩ => show k1_off2 k (BitVec.ofNat 32 r.val) 1 + 1 * κ.val = 64 * rs (32 * k.val + r.val) + κ.val; rw [h]; show 64 * rs (32 * k.val + r.val) + 1 * κ.val = _; omega
  | ⟨2, _⟩ => show k1_off2 k (BitVec.ofNat 32 r.val) 2 + 1 * e.val = e.val; rw [h]; show 0 + 1 * e.val = _; omega

/-- The trip's chunks of the table. -/
theorem tb_apply (c : Fin 4) (p e : Fin 128) (j : Fin 14) (hj : j.val = 7 + rs (gr k r).val + 2 * c.val - (gr k r).val) :
    (In arg2 harg2 arg3 harg3 arg4 harg4 arg5 harg5 arg6 harg6 arg7 harg7 x0 x1 x2 x3 x4 x5 k).tb r c (ix4 0 0 p e) = x5 (ix4 0 j p e) := by
  refine (Memref.IsWhole.readAt_unread harg7 x5 _ _).trans (congrArg x5 (funext fun a => Fin.ext ?_))
  have h := off3 k r c
  match a with
  | ⟨0, _⟩ => show k1_off3 k (BitVec.ofNat 32 r.val) (BitVec.ofNat 32 (2 * c.val)) 0 + 1 * 0 = 0; rw [h]; rfl
  | ⟨1, _⟩ => show k1_off3 k (BitVec.ofNat 32 r.val) (BitVec.ofNat 32 (2 * c.val)) 1 + 1 * 0 = j.val; rw [h, hj]; rfl
  | ⟨2, _⟩ => show k1_off3 k (BitVec.ofNat 32 r.val) (BitVec.ofNat 32 (2 * c.val)) 2 + 1 * p.val = p.val; rw [h]; show 0 + 1 * p.val = _; omega
  | ⟨3, _⟩ => show k1_off3 k (BitVec.ofNat 32 r.val) (BitVec.ofNat 32 (2 * c.val)) 3 + 1 * e.val = e.val; rw [h]; show 0 + 1 * e.val = _; omega

/-- A context block as loaded is the block. -/
theorem ctx_apply (m : Memref sig .tc .vmem S1x256x128 .bf16) (h : m.IsWhole) (x : Vec Ideal S1x256x128 .bf16) (l : Fin 256) (e : Fin 128) :
    ctx m h x (ix3 0 l e) = x (ix3 0 l e) := by
  refine (Memref.IsWhole.readAt_unread h x _ _).trans (congrArg x (funext fun a => Fin.ext ?_))
  match a with
  | ⟨0, _⟩ => rfl
  | ⟨1, _⟩ => show 0 + 1 * l.val = l.val; omega
  | ⟨2, _⟩ => show 0 + 1 * e.val = e.val; omega

/-- A trip's row, element by element. -/
theorem ro_trip (p : Fin 64) (d : Fin 128) :
    ro (In arg2 harg2 arg3 harg3 arg4 harg4 arg5 harg5 arg6 harg6 arg7 harg7 x0 x1 x2 x3 x4 x5 k) r (ix3 0 p d)
      = oK x0 x1 x2 x3 x4 x5 (gr k r) ⟨d.val / 64 * 64 + p.val, by omega⟩ d := by
  rw [ro_apply]
  generalize (⟨d.val / 64 * 64 + p.val, _⟩ : Fin 128) = P
  have hh : ∀ e, hq ((In arg2 harg2 arg3 harg3 arg4 harg4 arg5 harg5 arg6 harg6 arg7 harg7 x0 x1 x2 x3 x4 x5 k).q r) P e = hqb x0 (gr k r) P e := by
    intro e
    unfold hq hqb
    rw [q_apply]
  have hs : ∀ κ, sw (In arg2 harg2 arg3 harg3 arg4 harg4 arg5 harg5 arg6 harg6 arg7 harg7 x0 x1 x2 x3 x4 x5 k) r (ix2 P κ) = sK x0 x1 x5 (gr k r) P κ := by
    intro κ
    rw [sw_apply]
    unfold sK tbv
    have et := tb_apply arg2 harg2 arg3 harg3 arg4 harg4 arg5 harg5 arg6 harg6 arg7 harg7 x0 x1 x2 x3 x4 x5 k r ⟨κ.val / 128, by omega⟩ P ⟨κ.val % 128, by omega⟩
      ⟨7 + rs (gr k r).val + 2 * (κ.val / 128) - (gr k r).val, by unfold rs; omega⟩ rfl
    rw [et]
    simp only [hh, kw_apply]
  have hc : ∀ l, sxr (In arg2 harg2 arg3 harg3 arg4 harg4 arg5 harg5 arg6 harg6 arg7 harg7 x0 x1 x2 x3 x4 x5 k) r (ix2 P l) = cK x0 x3 (gr k r) P l := by
    intro l
    rw [sxr_apply]
    unfold cK
    simp only [hh]
    exact Finset.sum_congr rfl fun e _ => by rw [show Inp.kc _ = ctx arg5 harg5 x3 from rfl, ctx_apply]
  have hv : ∀ l, (In arg2 harg2 arg3 harg3 arg4 harg4 arg5 harg5 arg6 harg6 arg7 harg7 x0 x1 x2 x3 x4 x5 k).vc (ix3 0 l d) = x4 (ix3 0 l d) := (ctx_apply arg6 harg6 x4 · d)
  rw [oo_apply, il_apply]
  simp only [pw_apply, px_apply, mx_apply, hs, hc, hv, vw_apply]
  rfl

end

/-- The output block, element by element. -/
def blkAt (y : S1x4096x128.Idx) : EReal :=
  oK x0 x1 x2 x3 x4 x5 ⟨(y 1).val / 64, by have : (y 1).val < 4096 := (y 1).isLt; omega⟩
    ⟨(y 2).val / 64 * 64 + (y 1).val % 64, by have : (y 2).val < 128 := (y 2).isLt; omega⟩ ⟨(y 2).val, (y 2).isLt⟩

/-- One trip's pieces hold the block's values. -/
theorem trip_apply (k : Fin k1_t1_loop.trips) (pc : View.Piece (Elt Ideal) S1x4096x128 .bf16)
    (hp : pc ∈ trip arg2 harg2 arg3 harg3 arg4 harg4 arg5 harg5 arg6 harg6 arg7 harg7 x0 x1 x2 x3 x4 x5 k) (z : pc.1.shape.Idx) :
    pc.2 z = blkAt x0 x1 x2 x3 x4 x5 (pc.1.emb z) := by
  obtain ⟨r, _, rfl⟩ := List.mem_map.mp hp
  obtain ⟨a, p, d, rfl⟩ : ∃ (a : Fin 1) (p : Fin 64) (d : Fin 128), z = ix3 a p d := ⟨z 0, z 1, z 2, by ext i; fin_cases i <;> rfl⟩
  obtain rfl : a = 0 := Subsingleton.elim _ _
  refine (ro_trip arg2 harg2 arg3 harg3 arg4 harg4 arg5 harg5 arg6 harg6 arg7 harg7 x0 x1 x2 x3 x4 x5 k r p d).trans ?_
  have h := off1 k r
  have f0 : ∀ (R : Fin 64) (P D : Fin 128), R.val = (gr k r).val → P.val = d.val / 64 * 64 + p.val → D.val = d.val →
      oK x0 x1 x2 x3 x4 x5 (gr k r) ⟨d.val / 64 * 64 + p.val, by omega⟩ d = oK x0 x1 x2 x3 x4 x5 R P D := by
    intro R P D a b c
    rw [Fin.ext a, Fin.ext c]
    congr 1
    exact Fin.ext b.symm
  have e1 : k1_off1 k (BitVec.ofNat 32 r.val) 1 + 1 * p.val = 64 * (32 * k.val + r.val) + p.val := by
    rw [h]; show 64 * (32 * k.val + r.val) + 1 * p.val = _; omega
  have e2 : k1_off1 k (BitVec.ofNat 32 r.val) 2 + 1 * d.val = d.val := by
    rw [h]; show 0 + 1 * d.val = _; omega
  refine f0 _ _ _ ?_ ?_ ?_
  · show (k1_off1 k (BitVec.ofNat 32 r.val) 1 + 1 * p.val) / 64 = 32 * k.val + r.val
    rw [e1]; omega
  · show (k1_off1 k (BitVec.ofNat 32 r.val) 2 + 1 * d.val) / 64 * 64 + (k1_off1 k (BitVec.ofNat 32 r.val) 1 + 1 * p.val) % 64 = _
    rw [e1, e2]; omega
  · exact e2

/-- The block the body leaves. -/
theorem out_apply (c : Dev nD) (i : grid1.Coords) (y : S1x4096x128.Idx) :
    out1_A_6 (F := Ideal) c i arg2 harg2 arg3 harg3 arg4 harg4 arg5 harg5 arg6 harg6 arg7 harg7 arg8 harg8 x0 x1 x2 x3 x4 x5 y
      = blkAt x0 x1 x2 x3 x4 x5 y := by
  unfold out1_A_6
  rw [View.read_writes_junk_eq_canon]
  refine View.canon_apply_of_pieces (Val := Elt Ideal) (blkAt x0 x1 x2 x3 x4 x5) _ ?_ y (cover1_A_6 ..)
  intro pc hp z
  rw [run_pieces] at hp
  rcases List.mem_append.mp hp with hp | hp
  · exact trip_apply _ _ _ _ _ _ _ _ _ _ _ _ _ _ _ _ _ _ _ pc hp z
  · rw [List.append_nil] at hp
    exact trip_apply _ _ _ _ _ _ _ _ _ _ _ _ _ _ _ _ _ _ _ pc hp z

end Cert.KernelIdeal.Attn
-- ==== Proof.Tab.lean ====
/- The attention's bias table, element by element. -/
module
public import proofs.«01_k».proof.Proof.Gen.KernelIdeal.Frame
public import Idealize.ShloMosaic.Lib.Pipeline.ValueKit
public import Idealize.ShloMosaic.Lib.WordCmp
@[expose] public section
set_option maxRecDepth 16384
noncomputable section
namespace Cert.KernelIdeal.Tab
open Idealize.ShloMosaic Idealize.ShloMosaic.TcCoe Idealize.ShloMosaic.WordCmp Cert.KernelIdeal Cert.KernelIdeal.Gen

variable (x : Vec Ideal S2x16x128 .f32)

/-- Row `j` of head `h` of the padded relative-position bias. -/
def row (h : Fin 2) (j : Fin 15) : Vec Ideal S1x1x128 .f32 :=
  View.ld x (Rect.unit (s := S2x16x128) ![h.val, j.val, 0] S1x1x128.size (by
    intro a
    match a with
    | ⟨0, _⟩ => show h.val + 1 ≤ 2; omega
    | ⟨1, _⟩ => show j.val + 1 ≤ 16; omega
    | ⟨2, _⟩ => exact le_rfl))

/-- The tile of head `h` and entry `j` of the table. -/
def tile (h : Fin 2) (j : Fin 14) : FVec Ideal S1x1x64x128 .f32 :=
  k0_pay2 k0_pay3 k0_pay4 (row x h j.castSucc) (row x h j.succ)

/-- The piece stored for head `h` and entry `j`. -/
def piece (h : Fin 2) (j : Fin 14) : View.Piece (Elt Ideal) S1x14x128x128 .f32 :=
  ⟨Rect.unit (s := S1x14x128x128) ![0, j.val, 64 * h.val, 0] S1x1x64x128.size (by
    intro a
    match a with
    | ⟨0, _⟩ => exact le_rfl
    | ⟨1, _⟩ => show j.val + 1 ≤ 14; omega
    | ⟨2, _⟩ => show 64 * h.val + 64 ≤ 128; omega
    | ⟨3, _⟩ => exact le_rfl), tile x h j⟩

/-- The entries of one head, last first. -/
def js : List (Fin 14) := [13, 12, 11, 10, 9, 8, 7, 6, 5, 4, 3, 2, 1, 0]

/-- The list names every entry. -/
theorem mem_js (j : Fin 14) : j ∈ js := by revert j; decide

/-- The pieces the table's body stores, last first. -/
def ps : List (View.Piece (Elt Ideal) S1x14x128x128 .f32) := js.map (piece x 1) ++ js.map (piece x 0)

/-- The table's block is those pieces laid out. -/
theorem out_eq : out0_1 x = View.canon (ps x) := by sl_kernel_rfl

/-- The column of a lane, as a word. -/
theorem colw : ∀ l : Fin 128, Scalar.select
          (IntOp.andi
            (IntOp.xori
              (IntOp.cmpi CmpIPredicate.slt
                (IntOp.remsi ArithUnit.vector (BitVec.ofNat 32 l.val) (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 l.val) (Scalar.select (Scalar.cmpi CmpIPredicate.eq 64#32 0#32) 1#32 64#32))
              0#32))
          (IntOp.addi
            (IntOp.remsi ArithUnit.vector (BitVec.ofNat 32 l.val) (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 l.val) (Scalar.select (Scalar.cmpi CmpIPredicate.eq 64#32 0#32) 1#32 64#32)) = BitVec.ofNat 32 (l.val % 64) := by decide

/-- The start of a column's window, as a word. -/
theorem winw : ∀ q : Fin 64, IntOp.minsi 48#32 (IntOp.maxsi 0#32 (IntOp.subi (BitVec.ofNat 32 q.val) 8#32))
    = BitVec.ofNat 32 (min 48 (q.val - 8)) := by decide

/-- The mask of one tile: the key's column lies in the query column's window. -/
theorem pay3_apply (q : Fin 64) (l : Fin 128) :
    k0_pay3 (ix2 q l) = BitVec.ofBool (decide (min 48 (q.val - 8) ≤ l.val % 64) && decide (l.val % 64 < min 48 (q.val - 8) + 16)) := by
  pointwise [k0_pay3]
  rw [colw, winw]
  have e : IntOp.addi (BitVec.ofNat 32 (min 48 (q.val - 8))) 16#32 = BitVec.ofNat 32 (min 48 (q.val - 8) + 16) := by
    revert q; decide
  rw [e, cmpi_sge_ofNat (by omega) (by omega), cmpi_slt_ofNat (by omega) (by omega)]
  exact BitVec.ofBool_and_ofBool

/-- The lanes of a tile's first half. -/
theorem pay4_apply (q : Fin 64) (l : Fin 128) : k0_pay4 (ix2 q l) = BitVec.ofBool (decide (l.val < 64)) := by
  pointwise [k0_pay4]
  exact cmpi_slt_ofNat (by omega) (by decide)

/-- The named mask constant is minus infinity. -/
theorem mask_eq : (Named.named (F := Ideal) κ "mask" 0xF149F2CA#32 : Ideal .f32) = (⊥ : EReal) := by rfl

/-- A row, element by element. -/
theorem row_apply (h : Fin 2) (j : Fin 15) (l : Fin 128) : row x h j (ix3 0 0 l) = x (ix3 h ⟨j.val, by omega⟩ l) := by
  unfold row
  refine congrArg x (funext fun a => Fin.ext ?_)
  match a with
  | ⟨0, _⟩ => show h.val + 1 * 0 = h.val; omega
  | ⟨1, _⟩ => show j.val + 1 * 0 = j.val; omega
  | ⟨2, _⟩ => show 0 + 1 * l.val = l.val; omega

/-- What the table holds for head `h` of the pair, entry `j`, query column `q`, lane `l`. -/
def tv (h : Fin 2) (j : Fin 14) (q : Fin 64) (l : Fin 128) : EReal :=
  if min 48 (q.val - 8) ≤ l.val % 64 ∧ l.val % 64 < min 48 (q.val - 8) + 16 then
    x (ix3 h ⟨j.val + l.val / 64, by omega⟩ ⟨(l.val % 64 + 15 - q.val) % 128, by omega⟩)
  else ⊥

/-- A tile, element by element. -/
theorem tile_apply (h : Fin 2) (j : Fin 14) (q : Fin 64) (l : Fin 128) :
    tile x h j (ix4 0 0 q l) = tv x h j q l := by
  pointwise [tile, k0_pay2]
  rw [pay3_apply, pay4_apply, select_ofBool, select_decide, row_apply, row_apply, ← Bool.decide_and]
  simp only [decide_eq_true_eq]
  unfold tv
  split
  · rename_i hv
    split
    · refine congrArg x ?_
      congr 1
      · exact Fin.ext (by show j.val = j.val + l.val / 64; omega)
      · exact Fin.ext (by show (l.val + 128 - (113 + q.val) % 128) % 128 = (l.val % 64 + 15 - q.val) % 128; omega)
    · refine congrArg x ?_
      congr 1
      · exact Fin.ext (by show j.val + 1 = j.val + l.val / 64; omega)
      · exact Fin.ext (by show (l.val + 128 - (49 + q.val) % 128) % 128 = (l.val % 64 + 15 - q.val) % 128; omega)
  · exact mask_eq

/-- The table's block, element by element. -/
def tabAt (y : S1x14x128x128.Idx) : EReal :=
  tv x ⟨(y 2).val / 64, by have := (y 2).isLt; change _ < 128 at this; omega⟩ ⟨(y 1).val, (y 1).isLt⟩
    ⟨(y 2).val % 64, by omega⟩ ⟨(y 3).val, (y 3).isLt⟩

/-- One piece holds the table's entries. -/
theorem piece_apply (h : Fin 2) (j : Fin 14) (y : S1x1x64x128.Idx) :
    (piece x h j).2 y = tabAt x ((piece x h j).1.emb y) := by
  obtain ⟨a, b, q, l, rfl⟩ : ∃ a b q l, y = ix4 a b q l := ⟨y 0, y 1, y 2, y 3, by ext i; fin_cases i <;> rfl⟩
  obtain rfl : a = 0 := Subsingleton.elim _ _
  obtain rfl : b = 0 := Subsingleton.elim _ _
  refine (tile_apply x h j q l).trans ?_
  unfold tabAt
  have e1 : (((piece x h j).1.emb (ix4 0 0 q l)) 1).val = j.val := by show j.val + 1 * 0 = j.val; omega
  have e2 : (((piece x h j).1.emb (ix4 0 0 q l)) 2).val = 64 * h.val + q.val := by show 64 * h.val + 1 * q.val = _; omega
  have e3 : (((piece x h j).1.emb (ix4 0 0 q l)) 3).val = l.val := by show 0 + 1 * l.val = _; omega
  have f0 : ∀ (h' : Fin 2) (j' : Fin 14) (q' : Fin 64) (l' : Fin 128), h'.val = h.val → j'.val = j.val → q'.val = q.val →
      l'.val = l.val → tv x h j q l = tv x h' j' q' l' := by
    intro h' j' q' l' a b c d
    rw [Fin.ext a, Fin.ext b, Fin.ext c, Fin.ext d]
  refine f0 _ _ _ _ ?_ e1 ?_ e3
  · show _ / 64 = h.val; rw [e2]; omega
  · show _ % 64 = q.val; rw [e2]; omega

/-- The table's block is `tabAt` everywhere. -/
theorem out_apply (y : S1x14x128x128.Idx) : out0_1 x y = tabAt x y := by
  rw [out_eq]
  refine View.canon_apply_of_pieces (tabAt x) (ps x) ?_ y ?_
  · intro p hp z
    rcases List.mem_append.mp hp with hp | hp
    · obtain ⟨j, _, rfl⟩ := List.mem_map.mp hp
      exact piece_apply x 1 j z
    · obtain ⟨j, _, rfl⟩ := List.mem_map.mp hp
      exact piece_apply x 0 j z
  · have h2 : (y 2).val < 128 := (y 2).isLt
    have h1 : (y 1).val < 14 := (y 1).isLt
    have key : ∀ h : Fin 2, (y 2).val / 64 = h.val → y ∈ (piece x h ⟨(y 1).val, h1⟩).1.set := by
      intro h hh
      unfold piece
      rw [Rect.mem_set_unit]
      intro a
      match a with
      | ⟨0, _⟩ => exact ⟨Nat.zero_le _, by have : (y 0).val < 1 := (y 0).isLt; show (y 0).val < 0 + 1; omega⟩
      | ⟨1, _⟩ => exact ⟨le_refl (y 1).val, by show (y 1).val < (y 1).val + 1; omega⟩
      | ⟨2, _⟩ => exact ⟨by show 64 * h.val ≤ (y 2).val; omega, by show (y 2).val < 64 * h.val + 64; omega⟩
      | ⟨3, _⟩ => exact ⟨Nat.zero_le _, by have : (y 3).val < 128 := (y 3).isLt; show (y 3).val < 0 + 128; omega⟩
    by_cases h : (y 2).val / 64 = 1
    · exact ⟨_, List.mem_append.mpr (Or.inl (List.mem_map.mpr ⟨_, mem_js _, rfl⟩)), key 1 h⟩
    · exact ⟨_, List.mem_append.mpr (Or.inr (List.mem_map.mpr ⟨_, mem_js _, rfl⟩)), key 0 (by show _ = 0; omega)⟩

end Cert.KernelIdeal.Tab
-- ==== Proof.AttnRun.lean ====
/- The value of the attention kernel's run: what its result array holds, by the two launches' blocks. -/
module

public import proofs.«01_k».proof.Proof.Gen.KernelIdeal.Frame
public import proofs.«01_k».proof.Proof.AttnBlk
public import proofs.«01_k».proof.Proof.Tab
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two launches: the result array ends at what the second launch's blocks write, the arguments as they were. -/
theorem run : θ_run defs (onTc (τ := τ) (main (F := F))) ⟨m, fun _ => 0, ρ⟩ (fun r => ∀ c : Dev nD,
      r.2.mem ((c.tc : Thread nD τ).loc main_v5) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c => ⟨(h c _ (mem_uc main_v5 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Attn

end
-- ==== Proof.AttnFin.lean ====
/- The values of the attention's two launches, element by element of the arrays. -/
module

public import proofs.«01_k».proof.Proof.AttnRun

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

section
variable (V : (c : Dev nD) → (b : Ref sig .tc) → Buf (Elt Ideal) ((c : Thread nD τ).loc b))

/-- Where the first launch's windows sit, all four points at once. -/
theorem idx0 : ∀ t : Fin cfg0.N, win0_0.index t = ![t.val, 0, 0] ∧ win0_1.index t = ![t.val, 0, 0, 0] :=
  (by decide +kernel : ∀ t : Fin grid0.N, _)

/-- Where the second launch's windows sit, all 32 points at once. -/
theorem idx1 : ∀ t : Fin cfg1.N, win1_0.index t = ![t.val / 4, 0, t.val % 4] ∧ win1_1.index t = ![t.val / 4, 0, t.val % 4]
    ∧ win1_2.index t = ![t.val / 4, 0, t.val % 4] ∧ win1_3.index t = ![t.val / 4, 0, t.val % 4]
    ∧ win1_4.index t = ![t.val / 4, 0, t.val % 4] ∧ win1_5.index t = ![t.val % 4, 0, 0, 0]
    ∧ win1_6.index t = ![t.val / 4, 0, t.val % 4] :=
  (by decide +kernel : ∀ t : Fin grid1.N, _)

/-- The table of the biases, of the padded biases. -/
def tabF (X : FVec Ideal S8x16x128 .f32) (g : Fin 4) (j : Fin 14) (p l : Fin 128) : EReal :=
  if min 48 (p.val % 64 - 8) ≤ l.val % 64 ∧ l.val % 64 < min 48 (p.val % 64 - 8) + 16 then
    X (ix3 ⟨2 * g.val + p.val / 64, by omega⟩ ⟨j.val + l.val / 64, by omega⟩ ⟨(l.val % 64 + 15 - p.val % 64) % 128, by omega⟩)
  else ⊥

/-- One point's block of the padded biases. -/
theorem blk0 (c : Dev nD) (t : Fin cfg0.N) (h : Fin 2) (a : Fin 16) (b : Fin 128) (H : Fin 8) (hH : H.val = 2 * t.val + h.val) :
    iblk0 V c 0 t (ix3 h a b) = V c main_v3 (ix3 H a b) := by
  have ht : t.val < 4 := t.isLt
  blk_point [iblk0, idx0 t]

/-- The table after the first launch, by the block each element lies in. -/
theorem final0_of (c : Dev nD) (G : S4x14x128x128.Idx → EReal)
    (hG : ∀ (t : Fin cfg0.N) (g : Fin 4) (j : Fin 14) (p l : Fin 128), g.val = t.val → Tab.tabAt (iblk0 V c 0 t) (ix4 0 j p l) = G (ix4 g j p l)) :
    (dat0 V c).arrAt 1 cfg0.N = G := by
  refine (dat0 V c).arrAt_eq_of_covers 1 _ (by decide +kernel) fun t _ y => ?_
  blk_simp
  rw [after0_1]
  obtain ⟨u, j, p, l, rfl⟩ : ∃ (u : Fin 1) (j : Fin 14) (p l : Fin 128), y = ix4 u j p l := ⟨y 0, y 1, y 2, y 3, eq_ix4 (n0 := 1) (n1 := 14) (n2 := 128) (n3 := 128) y⟩
  obtain rfl : u = 0 := Subsingleton.elim _ _
  have ht : t.val < 4 := t.isLt
  rw [show ((View.whole main_v4).slice (win0_1.rect t)).emb (ix4 0 j p l)
    = ix4 (⟨t.val, ht⟩ : Fin 4) j p l by blk_ext [idx0 t]]
  exact (Tab.out_apply (iblk0 V c 0 t) (ix4 0 j p l)).trans (hG t _ j p l rfl)

/-- The table after the first launch. -/
theorem final0 (c : Dev nD) : (dat0 V c).arrAt 1 cfg0.N
    = fun z : S4x14x128x128.Idx => tabF (V c main_v3) (z 0) (z 1) (z 2) (z 3) := by
  refine final0_of V c _ fun t g j p l hg => ?_
  show Tab.tv _ ⟨p.val / 64, _⟩ j ⟨p.val % 64, _⟩ l = tabF (V c main_v3) g j p l
  unfold Tab.tv tabF
  refine if_congr Iff.rfl ?_ rfl
  exact blk0 V c t _ _ _ _ (by rw [← hg])

/-- One point's block of the scaled queries. -/
theorem blk1_0 (c : Dev nD) (t : Fin cfg1.N) (s : Fin 4096) (e : Fin 128) (b : Fin 8) (d : Fin 512) (hb : b.val = t.val / 4) (hd : d.val = t.val % 4 * 128 + e.val) :
    iblk1 V c 0 t (ix3 0 s e) = V c main_v2 (ix3 b s d) := by
  have ht : t.val < 32 := t.isLt
  blk_point [iblk1, idx1 t]

/-- One point's block of the keys. -/
theorem blk1_1 (c : Dev nD) (t : Fin cfg1.N) (s : Fin 4096) (e : Fin 128) (b : Fin 8) (d : Fin 512) (hb : b.val = t.val / 4) (hd : d.val = t.val % 4 * 128 + e.val) :
    iblk1 V c 1 t (ix3 0 s e) = V c main_arg1 (ix3 b s d) := by
  have ht : t.val < 32 := t.isLt
  blk_point [iblk1, idx1 t]

/-- One point's block of the values. -/
theorem blk1_2 (c : Dev nD) (t : Fin cfg1.N) (s : Fin 4096) (e : Fin 128) (b : Fin 8) (d : Fin 512) (hb : b.val = t.val / 4) (hd : d.val = t.val % 4 * 128 + e.val) :
    iblk1 V c 2 t (ix3 0 s e) = V c main_arg2 (ix3 b s d) := by
  have ht : t.val < 32 := t.isLt
  blk_point [iblk1, idx1 t]

/-- One point's block of the context's keys. -/
theorem blk1_3 (c : Dev nD) (t : Fin cfg1.N) (s : Fin 256) (e : Fin 128) (b : Fin 8) (d : Fin 512) (hb : b.val = t.val / 4) (hd : d.val = t.val % 4 * 128 + e.val) :
    iblk1 V c 3 t (ix3 0 s e) = V c main_arg3 (ix3 b s d) := by
  have ht : t.val < 32 := t.isLt
  blk_point [iblk1, idx1 t]

/-- One point's block of the context's values. -/
theorem blk1_4 (c : Dev nD) (t : Fin cfg1.N) (s : Fin 256) (e : Fin 128) (b : Fin 8) (d : Fin 512) (hb : b.val = t.val / 4) (hd : d.val = t.val % 4 * 128 + e.val) :
    iblk1 V c 4 t (ix3 0 s e) = V c main_arg4 (ix3 b s d) := by
  have ht : t.val < 32 := t.isLt
  blk_point [iblk1, idx1 t]

/-- One point's block of the table. -/
theorem blk1_5 (c : Dev nD) (t : Fin cfg1.N) (j : Fin 14) (p l : Fin 128) (g : Fin 4) (hg : g.val = t.val % 4) :
    iblk1 V c 5 t (ix4 0 j p l) = V c main_v4 (ix4 g j p l) := by
  have ht : t.val < 32 := t.isLt
  blk_point [iblk1, idx1 t]

/-- The result array after the second launch, by the block each element lies in. -/
theorem final1 (c : Dev nD) (G : S8x4096x512.Idx → EReal)
    (hG : ∀ (t : Fin cfg1.N) (s : Fin 4096) (e : Fin 128) (b : Fin 8) (d : Fin 512), b.val = t.val / 4 → d.val = t.val % 4 * 128 + e.val →
      blkAt (iblk1 V c 0 t) (iblk1 V c 1 t) (iblk1 V c 2 t) (iblk1 V c 3 t) (iblk1 V c 4 t) (iblk1 V c 5 t) (ix3 0 s e) = G (ix3 b s d)) :
    (dat1 V c).arrAt 6 cfg1.N = G := by
  refine (dat1 V c).arrAt_eq_of_covers 6 _ (by decide +kernel) fun t _ y => ?_
  blk_simp
  rw [after1_6]
  obtain ⟨u, s, e, rfl⟩ : ∃ (u : Fin 1) (s : Fin 4096) (e : Fin 128), y = ix3 u s e := ⟨y 0, y 1, y 2, eq_ix3 (n0 := 1) (n1 := 4096) (n2 := 128) y⟩
  obtain rfl : u = 0 := Subsingleton.elim _ _
  have ht : t.val < 32 := t.isLt
  rw [show ((View.whole main_v5).slice (win1_6.rect t)).emb (ix3 0 s e)
    = ix3 (⟨t.val / 4, by omega⟩ : Fin 8) s (⟨t.val % 4 * 128 + e.val, by omega⟩ : Fin 512) by blk_ext [idx1 t]]
  unfold outsAt1
  exact (out_apply ..).trans (hG t s e _ _ rfl rfl)
end

section
variable (m : (ℓ : Loc nD τ sig) → Buf (Elt Ideal) ℓ) (ρ : Dev nD → PrngReg)

/-- The table the second launch reads. -/
theorem V3_v4 (c : Dev nD) (g : Fin 4) (j : Fin 14) (p l : Fin 128) : V3 m ρ c main_v4 (ix4 g j p l) = tabF (V2 m ρ c main_v3) g j p l :=
  congrFun ((W3_arr m ρ c 1).trans (final0 (V2 m ρ) c)) (ix4 g j p l)

/-- An array scaled by an eighth. -/
def scaled (X : S8x4096x512.Idx → EReal) (z : S8x4096x512.Idx) : EReal := X z * Ideal.ofBits .f32 0x3E000000#32

/-- The scaled queries the second launch reads. -/
theorem V3_v2 (c : Dev nD) (z : S8x4096x512.Idx) : V3 m ρ c main_v2 z = scaled (m ((c : Thread nD τ).loc main_arg0)) z := by
  have e : V3 m ρ c main_v2 = W1 m ρ c (Proc.devRef .tc main_v2) :=
    (W3_of m ρ c main_v2 (by decide)).trans (W2_of m ρ c main_v2 (by decide))
  rw [e]
  rfl

/-- A padded array inside the array. -/
theorem pad_in (X : FVec Ideal S8x15x31 .f32) (v : FVec Ideal S_ .f32) (h : Fin 8) (a : Fin 15) (b : Fin 31) (a' : Fin 16) (b' : Fin 128)
    (ha : a'.val = a.val) (hb : b'.val = b.val) :
    pad S8x16x128 ![0, 0, 0] ![0, 1, 97] ![0, 0, 0] X v pads_S8x15x31_S8x16x128_000_010_0970 h_S_ (ix3 h a' b') = X (ix3 h a b) := by
  obtain ⟨a', ha'⟩ := a'
  obtain ⟨b', hb'⟩ := b'
  simp only at ha hb
  subst ha hb
  pointwise []

/-- The padded biases the first launch reads, inside the biases. -/
theorem V2_v3 (c : Dev nD) (h : Fin 8) (a : Fin 15) (b : Fin 31) (a' : Fin 16) (b' : Fin 128) (ha : a'.val = a.val) (hb : b'.val = b.val) :
    V2 m ρ c main_v3 (ix3 h a' b') = m ((c : Thread nD τ).loc main_arg5) (ix3 h a b) :=
  pad_in (m ((c : Thread nD τ).loc main_arg5)) (sitofp (F := Ideal) .f32 (constantI S_ 32 0#32)) h a b a' b' ha hb
end

end Cert.KernelIdeal.Attn

end
-- ==== Proof.Soft.lean ====
/- A softmax over all keys is one over the window of keys that are not masked, with the division outside. -/
module
public import Idealize.ShloMosaic.Lib.Pipeline.ValueKit
@[expose] public section
noncomputable section
namespace Cert.Attn
open Idealize.ShloMosaic

/-- The exponential of `⊥`. -/
theorem exp_bot : Ideal.exp ⊥ = 0 := rfl

/-- The exponential of a real. -/
theorem exp_coe (r : ℝ) : Ideal.exp (r : EReal) = (Real.exp r : EReal) := rfl

/-- `Ideal.exp` is never negative. -/
theorem exp_nonneg (x : EReal) : 0 ≤ Ideal.exp x := by
  induction x with
  | bot => exact le_rfl
  | top => exact le_top
  | coe r => rw [exp_coe]; exact EReal.coe_nonneg.mpr (Real.exp_pos r).le

/-- A finite sum of reals, taken in the extended reals. -/
theorem sum_coe {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- A nonnegative real factor goes through a finite sum of extended reals. -/
theorem sum_mul_real {ι : Type} (s : Finset ι) (f : ι → EReal) (c : EReal) (h0 : 0 ≤ c) (ht : c ≠ ⊤) :
    (∑ x ∈ s, f x) * c = ∑ x ∈ s, f x * c := by
  classical
  induction s using Finset.induction_on with
  | empty => simp
  | insert a s ha ih =>
    rw [Finset.sum_insert ha, Finset.sum_insert ha, ← ih, EReal.right_distrib_of_nonneg_of_ne_top h0 ht]

/-- A finite real factor goes through a finite sum of real terms. -/
theorem sum_mul_fin {ι : Type} (s : Finset ι) (f : ι → ℝ) (c : ℝ) :
    (∑ x ∈ s, (f x : EReal)) * (c : EReal) = ∑ x ∈ s, (f x : EReal) * (c : EReal) := by
  rw [sum_coe, ← EReal.coe_mul, Finset.sum_mul, ← sum_coe]
  simp only [EReal.coe_mul]

/-- The maximum folded from the bottom is the supremum. -/
theorem fold_sup {n : ℕ} (f : Fin n → EReal) : Finset.fold max ⊥ f Finset.univ = Finset.univ.sup f := rfl

section
variable (A : Fin 4096 → EReal) (C : Fin 256 → EReal) (V : Fin 4096 → EReal) (W : Fin 256 → EReal)
  (w : Fin 512 → Fin 4096) (hw : Function.Injective w) (hout : ∀ j, (∀ κ, w κ ≠ j) → A j = ⊥)

include hw in
/-- A sum over all keys of terms that vanish outside the window is the sum over the window. -/
theorem sum_window (f : Fin 4096 → EReal) (h : ∀ j, (∀ κ, w κ ≠ j) → f j = 0) : ∑ j, f j = ∑ κ, f (w κ) := by
  classical
  rw [← Finset.sum_image (s := Finset.univ) (g := w) (f := f) (fun a _ b _ e => hw e)]
  refine (Finset.sum_subset (Finset.subset_univ _) ?_).symm
  intro j _ hj
  exact h j fun κ e => hj (Finset.mem_image.mpr ⟨κ, Finset.mem_univ _, e⟩)

include hout in
/-- The largest score of all keys is the largest of the window. -/
theorem sup_window : Finset.univ.sup A = Finset.univ.sup fun κ => A (w κ) := by
  classical
  refine le_antisymm (Finset.sup_le fun j _ => ?_) (Finset.sup_le fun κ _ => Finset.le_sup (f := A) (Finset.mem_univ _))
  by_cases h : ∀ κ, w κ ≠ j
  · rw [hout j h]; exact bot_le
  · push Not at h
    obtain ⟨κ, rfl⟩ := h
    exact Finset.le_sup (f := fun κ => A (w κ)) (Finset.mem_univ κ)

include hw hout in
/-- The two forms of the attention of one query and lane agree. -/
theorem attend (hA : ∀ j, A j ≠ ⊤) (hC : ∀ l, C l ≠ ⊤) (hC' : ∀ l, C l ≠ ⊥) (M : EReal)
    (hM : M = max (Finset.univ.sup A) (Finset.univ.sup C)) :
    (∑ κ, Ideal.exp (A (w κ) - M) * V (w κ) + ∑ l, Ideal.exp (C l - M) * W l)
        * Ideal.div 1 (∑ κ, Ideal.exp (A (w κ) - M) + ∑ l, Ideal.exp (C l - M))
      = ∑ j, Ideal.div (Ideal.exp (A j - M)) (∑ j, Ideal.exp (A j - M) + ∑ l, Ideal.exp (C l - M)) * V j
        + ∑ l, Ideal.div (Ideal.exp (C l - M)) (∑ j, Ideal.exp (A j - M) + ∑ l, Ideal.exp (C l - M)) * W l := by
  classical
  have hMb : M ≠ ⊥ := by
    rw [hM]
    have : C 0 ≤ Finset.univ.sup C := Finset.le_sup (Finset.mem_univ _)
    intro h
    have h2 : C 0 ≤ ⊥ := h ▸ this.trans (le_max_right _ _)
    exact hC' 0 (le_bot_iff.mp h2)
  have hMt : M ≠ ⊤ := by
    rw [hM, ← lt_top_iff_ne_top]
    refine max_lt ?_ ?_
    · rw [Finset.sup_lt_iff (by exact bot_lt_top)]
      exact fun j _ => lt_top_iff_ne_top.mpr (hA j)
    · rw [Finset.sup_lt_iff (by exact bot_lt_top)]
      exact fun j _ => lt_top_iff_ne_top.mpr (hC j)
  lift M to ℝ using ⟨hMt, hMb⟩
  have ebot : ∀ j, (∀ κ, w κ ≠ j) → Ideal.exp (A j - (M : EReal)) = 0 := by
    intro j hj
    rw [hout j hj, EReal.bot_sub]; exact exp_bot
  have et : ∀ x : EReal, x ≠ ⊤ → Ideal.exp (x - (M : EReal)) ≠ ⊤ := by
    intro x hx
    induction x with
    | bot => rw [EReal.bot_sub, exp_bot]; exact EReal.zero_ne_top
    | top => exact absurd rfl hx
    | coe r => rw [← EReal.coe_sub, exp_coe]; exact EReal.coe_ne_top _
  have hsum : ∑ j, Ideal.exp (A j - (M : EReal)) = ∑ κ, Ideal.exp (A (w κ) - (M : EReal)) := sum_window w hw _ ebot
  rw [hsum]
  generalize hL : ∑ κ, Ideal.exp (A (w κ) - (M : EReal)) + ∑ l, Ideal.exp (C l - (M : EReal)) = L
  have hL0 : 0 < L := by
    rw [← hL]
    have h1 : 0 ≤ ∑ κ, Ideal.exp (A (w κ) - (M : EReal)) := Finset.sum_nonneg fun κ _ => exp_nonneg _
    have h2 : Ideal.exp (C 0 - (M : EReal)) ≤ ∑ l, Ideal.exp (C l - (M : EReal)) :=
      Finset.single_le_sum (f := fun l => Ideal.exp (C l - (M : EReal))) (fun l _ => exp_nonneg _) (Finset.mem_univ 0)
    have h3 : 0 < Ideal.exp (C 0 - (M : EReal)) := by
      have a := hC 0; have b := hC' 0
      generalize C 0 = x at a b
      lift x to ℝ using ⟨a, b⟩
      rw [← EReal.coe_sub, exp_coe]
      exact EReal.coe_pos.mpr (Real.exp_pos _)
    exact lt_of_lt_of_le h3 (h2.trans (le_add_of_nonneg_left h1))
  have hdiv : ∀ x, Ideal.div x L = x * L⁻¹ := fun x => by simp [Ideal.div, hL0.ne']
  have hi0 : 0 ≤ L⁻¹ := EReal.inv_nonneg_of_nonneg hL0.le
  have hit : L⁻¹ ≠ ⊤ := by
    intro h
    clear hdiv hi0
    induction L with
    | bot => exact absurd hL0 (not_lt.mpr bot_le)
    | top => rw [EReal.inv_top] at h; exact EReal.zero_ne_top h
    | coe r => rw [← EReal.coe_inv] at h; exact EReal.coe_ne_top _ h
  simp only [hdiv, one_mul]
  rw [EReal.right_distrib_of_nonneg_of_ne_top hi0 hit, sum_mul_real _ _ _ hi0 hit, sum_mul_real _ _ _ hi0 hit]
  rw [sum_window w hw (fun j => Ideal.exp (A j - (M : EReal)) * L⁻¹ * V j) (fun j hj => by rw [ebot j hj]; simp)]
  congr 1
  · exact Finset.sum_congr rfl fun κ _ => by rw [mul_right_comm]
  · exact Finset.sum_congr rfl fun κ _ => by rw [mul_right_comm]
end
end Cert.Attn
-- ==== Proof.AttnRef.lean ====
/- The reference of the attention, element by element. -/
module
public import proofs.«01_k».proof.Proof.Gen.ReferenceIdeal.Read
public import proofs.«01_k».proof.Proof.Soft
public import Idealize.ShloMosaic.Lib.Pipeline.ValueKit
public import Idealize.ShloMosaic.Lib.WordCmp
@[expose] public section
set_option maxRecDepth 16384
noncomputable section
namespace Cert.ReferenceIdeal.Attn
open Idealize.ShloMosaic Idealize.ShloMosaic.TcCoe Idealize.ShloMosaic.WordCmp Cert.ReferenceIdeal Cert.ReferenceIdeal.Read
/-- The quotient of a token's number by the row length, as a word. -/
theorem divw0 : ∀ a c : Fin 64, IntOp.divsi ArithUnit.host (BitVec.ofNat 32 (64 * a.val + c.val)) 64#32 = BitVec.ofNat 32 a.val := by decide

/-- The remainder of a token's number by the row length, as a word. -/
theorem remw0 : ∀ a c : Fin 64, IntOp.remsi ArithUnit.host (BitVec.ofNat 32 (64 * a.val + c.val)) 64#32 = BitVec.ofNat 32 c.val := by decide

/-- The first row of a window, as a word. -/
theorem rowstart : ∀ R : Fin 64, IntOp.minsi 56#32 (IntOp.maxsi 0#32 (IntOp.subi (BitVec.ofNat 32 R.val) 4#32)) = BitVec.ofNat 32 (min 56 (R.val - 4)) := by decide

/-- The first column of a window, as a word. -/
theorem colstart : ∀ R : Fin 64, IntOp.minsi 48#32 (IntOp.maxsi 0#32 (IntOp.subi (BitVec.ofNat 32 R.val) 8#32)) = BitVec.ofNat 32 (min 48 (R.val - 8)) := by decide

/-- The relative row, clipped, as a word. -/
theorem relrow : ∀ a b : Fin 64, IntOp.minsi 14#32 (IntOp.maxsi 0#32 (IntOp.subi (IntOp.addi (IntOp.subi (BitVec.ofNat 32 a.val) (BitVec.ofNat 32 b.val)) 8#32) 1#32)) = BitVec.ofNat 32 (min 14 (a.val + 7 - b.val)) := by decide

/-- The relative column, clipped, as a word. -/
theorem relcol : ∀ a b : Fin 64, IntOp.minsi 30#32 (IntOp.maxsi 0#32 (IntOp.subi (IntOp.addi (IntOp.subi (BitVec.ofNat 32 a.val) (BitVec.ofNat 32 b.val)) 16#32) 1#32)) = BitVec.ofNat 32 (min 30 (a.val + 15 - b.val)) := by decide

/-- A relative row is not negative. -/
theorem wrap15 : ∀ n : Fin 15, (Scalar.select (IntOp.cmpi CmpIPredicate.slt (BitVec.ofNat 32 n.val) 0#32) (IntOp.addi (BitVec.ofNat 32 n.val) 15#32) (BitVec.ofNat 32 n.val)).toInt.toNat = n.val := by decide

/-- A relative column is not negative. -/
theorem wrap31 : ∀ n : Fin 31, (Scalar.select (IntOp.cmpi CmpIPredicate.slt (BitVec.ofNat 32 n.val) 0#32) (IntOp.addi (BitVec.ofNat 32 n.val) 31#32) (BitVec.ofNat 32 n.val)).toInt.toNat = n.val := by decide

variable (x0 : (⟨S8x4096x512, .f32⟩ : BufTy).Contents (Elt Ideal)) (x1 x2 : (⟨S8x4096x512, .bf16⟩ : BufTy).Contents (Elt Ideal))
 (x3 x4 : (⟨S8x256x512, .bf16⟩ : BufTy).Contents (Elt Ideal)) (x5 : (⟨S8x15x31, .f32⟩ : BufTy).Contents (Elt Ideal))

/-- The grid row of a token. -/
theorem v11_apply (s : Fin 4096) : val_main_v11 (F := Ideal) (ix1 s) = BitVec.ofNat 32 (s.val / 64) := by
  pointwise [val_main_v11, val_main_v10, val_main_v9, val_main_c]
  have := divw0 ⟨s.val / 64, by omega⟩ ⟨s.val % 64, by omega⟩
  simp only [Nat.div_add_mod] at this
  exact this

/-- The grid column of a token. -/
theorem v13_apply (s : Fin 4096) : val_main_v13 (F := Ideal) (ix1 s) = BitVec.ofNat 32 (s.val % 64) := by
  pointwise [val_main_v13, val_main_v12, val_main_v9, val_main_c_0]
  have := remw0 ⟨s.val / 64, by omega⟩ ⟨s.val % 64, by omega⟩
  simp only [Nat.div_add_mod] at this
  exact this

/-- The first row of a token's window. -/
theorem v16_apply (s : Fin 4096) : val_main_v16 (F := Ideal) (ix1 s) = BitVec.ofNat 32 (min 56 (s.val / 64 - 4)) := by
  pointwise [val_main_v16, val_main_call0_v0, val_main_call0_v1, val_main_call0_v2, val_main_call0_v3, val_main_call0_v4, val_main_v15, val_main_v14, val_main_c_1, val_main_c_2, val_main_c_3]
  rw [v11_apply]
  exact rowstart ⟨s.val / 64, by omega⟩

/-- The first column of a token's window. -/
theorem v20_apply (s : Fin 4096) : val_main_v20 (F := Ideal) (ix1 s) = BitVec.ofNat 32 (min 48 (s.val % 64 - 8)) := by
  pointwise [val_main_v20, val_main_call1_v0, val_main_call1_v1, val_main_call1_v2, val_main_call1_v3, val_main_call1_v4, val_main_v19, val_main_v18, val_main_c_4, val_main_c_5, val_main_c_6]
  rw [v13_apply]
  exact colstart ⟨s.val % 64, by omega⟩

/-- Token `j` lies in the window of token `s`. -/
def valid (s j : Fin 4096) : Prop :=
  ((min 56 (s.val / 64 - 4) ≤ j.val / 64 ∧ j.val / 64 < min 56 (s.val / 64 - 4) + 8) ∧ min 48 (s.val % 64 - 8) ≤ j.val % 64)
    ∧ j.val % 64 < min 48 (s.val % 64 - 8) + 16

/-- Whether a token lies in a window can be decided. -/
instance (s j : Fin 4096) : Decidable (valid s j) := by unfold valid; infer_instance

/-- The mask. -/
theorem v44_apply (s j : Fin 4096) : val_main_v44 (F := Ideal) (ix2 s j) = BitVec.ofBool (decide (valid s j)) := by
  pointwise [val_main_v44, val_main_v43, val_main_v42, val_main_v41, val_main_v40, val_main_v39, val_main_v38, val_main_c_8, val_main_v37, val_main_v36, val_main_v35, val_main_v34, val_main_v33, val_main_v32, val_main_v31, val_main_v30, val_main_v29, val_main_v28, val_main_v27, val_main_v26, val_main_c_7, val_main_v25, val_main_v24, val_main_v23, val_main_v22, val_main_v21, val_main_v17]
  rw [v11_apply, v13_apply, v16_apply, v20_apply, addi_ofNat _ 8, addi_ofNat _ 16, cmpi_sge_ofNat (by omega) (by omega), cmpi_slt_ofNat (by omega) (by omega),
    cmpi_sge_ofNat (by omega) (by omega), cmpi_slt_ofNat (by omega) (by omega), andi_ofBool, andi_ofBool, andi_ofBool]
  refine congrArg BitVec.ofBool ?_
  rw [Bool.eq_iff_iff, decide_eq_true_iff]
  simp only [Bool.and_eq_true, decide_eq_true_eq]
  rfl

/-- The relative row. -/
theorem v54_apply (s j : Fin 4096) : val_main_v54 (F := Ideal) (ix2 s j) = BitVec.ofNat 32 (min 14 (j.val / 64 + 7 - s.val / 64)) := by
  pointwise [val_main_v54, val_main_call2_v0, val_main_call2_v1, val_main_call2_v2, val_main_call2_v3, val_main_call2_v4, val_main_v53, val_main_v52, val_main_v51, val_main_v50, val_main_v49, val_main_v48, val_main_v47, val_main_v46, val_main_v45, val_main_c_9, val_main_c_10, val_main_c_11, val_main_c_12]
  rw [v11_apply, v11_apply]
  exact relrow ⟨j.val / 64, by omega⟩ ⟨s.val / 64, by omega⟩

/-- The relative column. -/
theorem v64_apply (s j : Fin 4096) : val_main_v64 (F := Ideal) (ix2 s j) = BitVec.ofNat 32 (min 30 (j.val % 64 + 15 - s.val % 64)) := by
  pointwise [val_main_v64, val_main_call3_v0, val_main_call3_v1, val_main_call3_v2, val_main_call3_v3, val_main_call3_v4, val_main_v63, val_main_v62, val_main_v61, val_main_v60, val_main_v59, val_main_v58, val_main_v57, val_main_v56, val_main_v55, val_main_c_13, val_main_c_14, val_main_c_15, val_main_c_16]
  rw [v13_apply, v13_apply]
  exact relcol ⟨j.val % 64, by omega⟩ ⟨s.val % 64, by omega⟩

/-- The first gather index. -/
theorem v77_apply0 (s j : Fin 4096) : (val_main_v77 (F := Ideal) (ix3 s j 0)).toInt.toNat = min 14 (j.val / 64 + 7 - s.val / 64) := by
  pointwise [val_main_v77, val_main_v75, val_main_v69, val_main_v68, val_main_v67, val_main_v66, val_main_v65, val_main_c_17, val_main_c_18]
  rw [v54_apply]
  exact wrap15 ⟨min 14 (j.val / 64 + 7 - s.val / 64), by omega⟩

/-- The second gather index. -/
theorem v77_apply1 (s j : Fin 4096) : (val_main_v77 (F := Ideal) (ix3 s j 1)).toInt.toNat = min 30 (j.val % 64 + 15 - s.val % 64) := by
  pointwise [val_main_v77, val_main_v76, val_main_v74, val_main_v73, val_main_v72, val_main_v71, val_main_v70, val_main_c_19, val_main_c_20]
  rw [v64_apply]
  exact wrap31 ⟨min 30 (j.val % 64 + 15 - s.val % 64), by omega⟩

variable (x0 : (⟨S8x4096x512, .f32⟩ : BufTy).Contents (Elt Ideal)) (x1 x2 : (⟨S8x4096x512, .bf16⟩ : BufTy).Contents (Elt Ideal))
 (x3 x4 : (⟨S8x256x512, .bf16⟩ : BufTy).Contents (Elt Ideal)) (x5 : (⟨S8x15x31, .f32⟩ : BufTy).Contents (Elt Ideal))

/-- The gather's dimension numbers. -/
abbrev D := gather_S8x15x31_S4096x4096x2_S8x4096x4096_0_12_n_n_12_2_811

/-- Where the gather reads. -/
theorem gather_at (idx : IVec S4096x4096x2 32) (h : Fin 8) (s j : Fin 4096) :
    D.operandIdx (ix3 h s j) idx = ix3 h ⟨min (idx (ix3 s j 0)).toInt.toNat 14, by omega⟩ ⟨min (idx (ix3 s j 1)).toInt.toNat 30, by omega⟩ := by
  funext a
  refine Fin.ext ?_
  match a with
  | ⟨0, _⟩ =>
    show D.start (ix3 h s j) idx 0 + D.batchCoord (ix3 h s j) 0 + D.offCoord (ix3 h s j) 0 = _
    rw [GatherDims.batchCoord_eq_zero _ _ _ List.not_mem_nil]
    unfold GatherDims.start
    rw [dif_neg (show (0 : Fin 3) ∉ D.startIndexMap by decide)]
    simp only [Nat.add_zero, Nat.zero_add]
    unfold GatherDims.offCoord
    rfl
  | ⟨1, _⟩ =>
    show D.start (ix3 h s j) idx 1 + D.batchCoord (ix3 h s j) 1 + D.offCoord (ix3 h s j) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (1 : Fin 3) ∈ D.startIndexMap := by decide
    rw [dif_pos hm]
    have hsi : D.siIdx (ix3 h s j) ⟨List.idxOf (1 : Fin 3) D.startIndexMap, List.idxOf_lt_length_iff.2 hm⟩ = ix3 s j 0 := by
      funext b; refine Fin.ext ?_
      match b with
      | ⟨0, _⟩ => rfl
      | ⟨1, _⟩ => rfl
      | ⟨2, _⟩ => rfl
    rw [hsi]
    rfl
  | ⟨2, _⟩ =>
    show D.start (ix3 h s j) idx 2 + D.batchCoord (ix3 h s j) 2 + D.offCoord (ix3 h s j) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (2 : Fin 3) ∈ D.startIndexMap := by decide
    rw [dif_pos hm]
    have hsi : D.siIdx (ix3 h s j) ⟨List.idxOf (2 : Fin 3) D.startIndexMap, List.idxOf_lt_length_iff.2 hm⟩ = ix3 s j 1 := by
      funext b; refine Fin.ext ?_
      match b with
      | ⟨0, _⟩ => rfl
      | ⟨1, _⟩ => rfl
      | ⟨2, _⟩ => rfl
    rw [hsi]
    rfl

/-- The gather reads the head's entry at the two indices. -/
theorem v78_apply (h : Fin 8) (s j : Fin 4096) :
    val_main_v78 (F := Ideal) x5 (ix3 h s j) = x5 (ix3 h ⟨min (val_main_v77 (F := Ideal) (ix3 s j 0)).toInt.toNat 14, by omega⟩
      ⟨min (val_main_v77 (F := Ideal) (ix3 s j 1)).toInt.toNat 30, by omega⟩) :=
  congrArg x5 (gather_at (val_main_v77 (F := Ideal)) h s j)

/-- The exponential of a score. -/
theorem v96_apply (b h : Fin 8) (s : Fin 4096) (l : Fin 4352) :
    val_main_v96 (F := Ideal) x0 x1 x3 x5 (ix4 b h s l) = Ideal.exp (val_main_v89 (F := Ideal) x0 x1 x3 x5 (ix4 b h s l) - max (Ideal.ofBits .f32 0xFF800000#32) (val_main_v90 (F := Ideal) x0 x1 x3 x5 (ix3 b h s))) := by
  have e : ∀ z : S8x8x4096.Idx, z = ix3 b h s → val_main_v92 (F := Ideal) x0 x1 x3 x5 z = max (Ideal.ofBits .f32 0xFF800000#32) (val_main_v90 (F := Ideal) x0 x1 x3 x5 (ix3 b h s)) := by
    rintro z rfl
    rw [val_main_v92_apply, val_main_v91_apply, val_main_cst_24_apply]
    rfl
  rw [val_main_v96_apply, val_main_v95_apply, val_main_v94_apply, val_main_v93_apply, e]
  · rfl
  · funext a
    match a with
    | ⟨0, _⟩ => rfl
    | ⟨1, _⟩ => rfl
    | ⟨2, _⟩ => rfl

end Cert.ReferenceIdeal.Attn
-- ==== Proof.AttnRefOut.lean ====
/- The reference of the attention, element by element. -/
module
public import proofs.«01_k».proof.Proof.AttnRef
@[expose] public section
set_option maxRecDepth 16384
noncomputable section
namespace Cert.ReferenceIdeal.Attn
open Idealize.ShloMosaic Idealize.ShloMosaic.TcCoe Idealize.ShloMosaic.WordCmp Cert.ReferenceIdeal Cert.ReferenceIdeal.Read
variable (x0 : (⟨S8x4096x512, .f32⟩ : BufTy).Contents (Elt Ideal)) (x1 x2 : (⟨S8x4096x512, .bf16⟩ : BufTy).Contents (Elt Ideal))
 (x3 x4 : (⟨S8x256x512, .bf16⟩ : BufTy).Contents (Elt Ideal)) (x5 : (⟨S8x15x31, .f32⟩ : BufTy).Contents (Elt Ideal))

/-- The pattern of minus infinity. -/
theorem ninf : Ideal.ofBits .f32 0xFF800000#32 = (⊥ : EReal) := by simp [Ideal.ofBits, Ideal.ieee]

/-- The pattern of an eighth. -/
theorem eighth : Ideal.ofBits .f32 0x3E000000#32 = (((1 : ℝ) / 8 : ℝ) : EReal) := by
  simp [Ideal.ofBits, Ideal.ieee]
  rw [← EReal.coe_mul]
  norm_num

/-- Lane `e` of head `h` among the 512. -/
abbrev lane (h : Fin 8) (e : Fin 64) : Fin 512 := ⟨h.val * 64 + e.val, by omega⟩

/-- The score of token `j` for the query at `s`. -/
def aR (b h : Fin 8) (s j : Fin 4096) : EReal :=
  if valid s j then (∑ e, x0 (ix3 b s (lane h e)) * x1 (ix3 b j (lane h e))) * Ideal.ofBits .f32 0x3E000000#32
    + x5 (ix3 h ⟨min 14 (j.val / 64 + 7 - s.val / 64), by omega⟩ ⟨min 30 (j.val % 64 + 15 - s.val % 64), by omega⟩) else ⊥

/-- The score of context key `l`. -/
def cR (b h : Fin 8) (s : Fin 4096) (l : Fin 256) : EReal :=
  (∑ e, x0 (ix3 b s (lane h e)) * x3 (ix3 b l (lane h e))) * Ideal.ofBits .f32 0x3E000000#32

/-- The context keys' scores. -/
theorem v88_apply (b h : Fin 8) (s : Fin 4096) (l : Fin 256) : val_main_v88 (F := Ideal) x0 x3 (ix4 b h s l) = cR x0 x3 b h s l := by
  pointwise [val_main_v88, val_main_v87, val_main_v86, val_main_cst_22, val_main_v0, val_main_v6, val_main_v5]
  rfl

/-- The window keys' scores. -/
theorem v85_apply (b h : Fin 8) (s j : Fin 4096) : val_main_v85 (F := Ideal) x0 x1 x5 (ix4 b h s j) = aR x0 x1 x5 b h s j := by
  pointwise [val_main_v85, val_main_call4_v1, val_main_call4_v2, val_main_call4_v0, val_main_cst_21, val_main_v84, val_main_v83, val_main_v82, val_main_v81, val_main_v80, val_main_cst, val_main_v79, val_main_v0, val_main_v2, val_main_v1]
  rw [v44_apply, select_ofBool, v78_apply]
  unfold aR
  refine if_congr (by simp) (congrArg _ (congrArg x5 ?_)) ninf
  simp only [v77_apply0, v77_apply1]
  congr 1 <;> exact Fin.ext (by simp only []; omega)

/-- All the scores of one query. -/
theorem v89_apply (b h : Fin 8) (s : Fin 4096) (l : Fin 4352) : val_main_v89 (F := Ideal) x0 x1 x3 x5 (ix4 b h s l)
    = if hl : l.val < 4096 then aR x0 x1 x5 b h s ⟨l.val, hl⟩ else cR x0 x3 b h s ⟨l.val - 4096, by omega⟩ := by
  pointwise [val_main_v89]
  simp only [v85_apply, v88_apply]

/-- A maximum over all the keys, split. -/
theorem sup_split (f : Fin 4096 → EReal) (g : Fin 256 → EReal) :
    Finset.univ.sup (fun l : Fin 4352 => if hl : l.val < 4096 then f ⟨l.val, hl⟩ else g ⟨l.val - 4096, by omega⟩)
      = max (Finset.univ.sup f) (Finset.univ.sup g) := by
  refine le_antisymm (Finset.sup_le fun l _ => ?_) (max_le (Finset.sup_le fun j _ => ?_) (Finset.sup_le fun l _ => ?_))
  · by_cases hl : l.val < 4096
    · rw [dif_pos hl]; exact le_max_of_le_left (Finset.le_sup (f := f) (Finset.mem_univ _))
    · rw [dif_neg hl]; exact le_max_of_le_right (Finset.le_sup (f := g) (Finset.mem_univ _))
  · have := Finset.le_sup (f := fun l : Fin 4352 => if hl : l.val < 4096 then f ⟨l.val, hl⟩ else g ⟨l.val - 4096, by omega⟩) (Finset.mem_univ (⟨j.val, by omega⟩ : Fin 4352))
    simpa using this
  · have := Finset.le_sup (f := fun l : Fin 4352 => if hl : l.val < 4096 then f ⟨l.val, hl⟩ else g ⟨l.val - 4096, by omega⟩) (Finset.mem_univ (⟨4096 + l.val, by omega⟩ : Fin 4352))
    simpa using this

/-- A sum over all the keys, split. -/
theorem sum_split (φ : EReal → EReal) (f : Fin 4096 → EReal) (g : Fin 256 → EReal) :
    ∑ l : Fin 4352, φ (if hl : l.val < 4096 then f ⟨l.val, hl⟩ else g ⟨l.val - 4096, by omega⟩) = ∑ j, φ (f j) + ∑ l, φ (g l) := by
  rw [show ∑ l : Fin 4352, φ (if hl : l.val < 4096 then f ⟨l.val, hl⟩ else g ⟨l.val - 4096, by omega⟩)
    = ∑ l : Fin (4096 + 256), φ (if hl : l.val < 4096 then f ⟨l.val, hl⟩ else g ⟨l.val - 4096, by omega⟩) from rfl, Fin.sum_univ_add]
  refine congrArg₂ (· + ·) (Finset.sum_congr rfl fun j _ => ?_) (Finset.sum_congr rfl fun l _ => ?_)
  · rw [dif_pos (by simp)]; rfl
  · rw [dif_neg (by simp)]; simp

/-- The largest score of one query. -/
def mR (b h : Fin 8) (s : Fin 4096) : EReal := max (Finset.univ.sup (aR x0 x1 x5 b h s)) (Finset.univ.sup (cR x0 x3 b h s))

/-- The largest score of one query, as computed. -/
theorem v90_apply (b h : Fin 8) (s : Fin 4096) :
    max (Ideal.ofBits .f32 0xFF800000#32) (val_main_v90 (F := Ideal) x0 x1 x3 x5 (ix3 b h s)) = mR x0 x1 x3 x5 b h s := by
  pointwise [val_main_v90]
  simp only [v89_apply]
  rw [show (val_main_cst_23 (F := Ideal) (Shape.Idx.first Gen.h_S_) : EReal) = ⊥ from ninf, ninf, bot_sup_eq, Cert.Attn.fold_sup, sup_split]
  rfl

/-- The exponentials' sum. -/
theorem v97_apply (b h : Fin 8) (s : Fin 4096) : val_main_v97 (F := Ideal) x0 x1 x3 x5 (ix3 b h s)
    = ∑ j, Ideal.exp (aR x0 x1 x5 b h s j - mR x0 x1 x3 x5 b h s) + ∑ l, Ideal.exp (cR x0 x3 b h s l - mR x0 x1 x3 x5 b h s) := by
  pointwise [val_main_v97, val_main_cst_25]
  simp only [v96_apply, v90_apply, v89_apply]
  exact sum_split (fun x => Ideal.exp (x - mR x0 x1 x3 x5 b h s)) _ _

/-- The result at batch `b`, token `s` and lane `d`. -/
def outR (b : Fin 8) (s : Fin 4096) (d : Fin 512) : EReal :=
  ∑ j, Ideal.div (Ideal.exp (aR x0 x1 x5 b ⟨d.val / 64, by omega⟩ s j - mR x0 x1 x3 x5 b ⟨d.val / 64, by omega⟩ s))
      (∑ j, Ideal.exp (aR x0 x1 x5 b ⟨d.val / 64, by omega⟩ s j - mR x0 x1 x3 x5 b ⟨d.val / 64, by omega⟩ s)
        + ∑ l, Ideal.exp (cR x0 x3 b ⟨d.val / 64, by omega⟩ s l - mR x0 x1 x3 x5 b ⟨d.val / 64, by omega⟩ s)) * x2 (ix3 b j d)
  + ∑ l, Ideal.div (Ideal.exp (cR x0 x3 b ⟨d.val / 64, by omega⟩ s l - mR x0 x1 x3 x5 b ⟨d.val / 64, by omega⟩ s))
      (∑ j, Ideal.exp (aR x0 x1 x5 b ⟨d.val / 64, by omega⟩ s j - mR x0 x1 x3 x5 b ⟨d.val / 64, by omega⟩ s)
        + ∑ l, Ideal.exp (cR x0 x3 b ⟨d.val / 64, by omega⟩ s l - mR x0 x1 x3 x5 b ⟨d.val / 64, by omega⟩ s)) * x4 (ix3 b l d)

set_option maxHeartbeats 1000000 in
/-- The reference's result. -/
theorem v109_apply (b : Fin 8) (s : Fin 4096) (d : Fin 512) :
    val_main_v109 (F := Ideal) x0 x1 x2 x3 x4 x5 (ix3 b s d) = outR x0 x1 x2 x3 x4 x5 b s d := by
  pointwise [val_main_v109, val_main_v108, val_main_v107, val_main_v106, val_main_v105, val_main_v104, val_main_v103, val_main_v102, val_main_v101, val_main_v100, val_main_v99, val_main_v98, val_main_v4, val_main_v8, val_main_v3, val_main_v7]
  simp only [v97_apply, v96_apply, v90_apply, v89_apply]
  unfold outR
  refine congrArg₂ (· + ·) (Finset.sum_congr rfl fun j _ => ?_) (Finset.sum_congr rfl fun l _ => ?_)
  · rw [dif_pos j.isLt, mul_comm]
  · rw [dif_neg (by simp), mul_comm]; simp

end Cert.ReferenceIdeal.Attn
-- ==== Proof.AttnLink.lean ====
/- The attention block of the launch is the plain attention, for real queries, keys and biases. -/
module

public import proofs.«01_k».proof.Proof.AttnBlk
public import proofs.«01_k».proof.Proof.AttnRefOut

@[expose] public section

set_option maxRecDepth 16384

noncomputable section

namespace Cert.KernelIdeal.Attn

open Cert.KernelIdeal Idealize.ShloMosaic Idealize.ShloMosaic.TcCoe
open Cert.ReferenceIdeal.Attn (lane aR cR mR outR valid ninf eighth)

/-- A sum over the 128 lanes of which only one head's count. -/
theorem half_sum (u : ℕ) (hu : u < 2) (f g : Fin 128 → EReal) :
    ∑ x : Fin 128, (if u = x.val / 64 then f x else 0) * g x
      = ∑ e : Fin 64, f ⟨u * 64 + e.val, by omega⟩ * g ⟨u * 64 + e.val, by omega⟩ := by
  rw [show ∑ x : Fin 128, (if u = x.val / 64 then f x else 0) * g x
    = ∑ x : Fin (64 + 64), (if u = x.val / 64 then f x else 0) * g x from rfl, Fin.sum_univ_add]
  obtain rfl | rfl : u = 0 ∨ u = 1 := by omega
  · rw [show ∑ i : Fin 64, (if 0 = (Fin.natAdd 64 i).val / 64 then f (Fin.natAdd 64 i) else 0) * g (Fin.natAdd 64 i) = 0 from
      Finset.sum_eq_zero fun i _ => by rw [if_neg (by simp only [Fin.val_natAdd]; omega), zero_mul], add_zero]
    refine Finset.sum_congr rfl fun i _ => ?_
    rw [if_pos (by simp only [Fin.val_castAdd]; omega)]
    have : (Fin.castAdd 64 i : Fin (64 + 64)) = (⟨0 * 64 + i.val, by omega⟩ : Fin 128) := Fin.ext (by simp)
    rw [this]
  · rw [show ∑ i : Fin 64, (if 1 = (Fin.castAdd 64 i).val / 64 then f (Fin.castAdd 64 i) else 0) * g (Fin.castAdd 64 i) = 0 from
      Finset.sum_eq_zero fun i _ => by rw [if_neg (by simp only [Fin.val_castAdd]; omega), zero_mul], zero_add]
    refine Finset.sum_congr rfl fun i _ => ?_
    rw [if_pos (by simp only [Fin.val_natAdd]; omega)]
    have : (Fin.natAdd 64 i : Fin (64 + 64)) = (⟨1 * 64 + i.val, by omega⟩ : Fin 128) := Fin.ext (by simp only [Fin.val_natAdd])
    rw [this]

/-- A value that is a real number. -/
def real (x : EReal) : Prop := ⊥ < x ∧ x < ⊤

/-- It is the real it stands for. -/
theorem real.eq {x : EReal} (h : real x) : x = (x.toReal : EReal) := (EReal.coe_toReal h.2.ne h.1.ne').symm

/-- Scaling every query by an eighth scales the sum. -/
theorem scale_sum (f g : Fin 64 → EReal) (hf : ∀ e, real (f e)) (hg : ∀ e, real (g e)) :
    ∑ e, f e * Ideal.ofBits .f32 0x3E000000#32 * g e = (∑ e, f e * g e) * Ideal.ofBits .f32 0x3E000000#32 := by
  have h : ∀ e, f e * g e = ((f e).toReal * (g e).toReal : ℝ) := fun e => by
    rw [EReal.coe_mul, ← (hf e).eq, ← (hg e).eq]
  rw [eighth, Finset.sum_congr rfl fun e _ => h e, Cert.Attn.sum_mul_fin]
  refine Finset.sum_congr rfl fun e _ => ?_
  rw [← h, mul_right_comm]

/-- Such a sum is a real number. -/
theorem real_sum (f g : Fin 64 → EReal) (hf : ∀ e, real (f e)) (hg : ∀ e, real (g e)) :
    ∃ r : ℝ, (∑ e, f e * g e) * Ideal.ofBits .f32 0x3E000000#32 = (r : EReal) := by
  have h : ∀ e, f e * g e = ((f e).toReal * (g e).toReal : ℝ) := fun e => by
    rw [EReal.coe_mul, ← (hf e).eq, ← (hg e).eq]
  rw [eighth, Finset.sum_congr rfl fun e _ => h e, Cert.Attn.sum_coe, ← EReal.coe_mul]
  exact ⟨_, rfl⟩

section
variable (X0 X1 X2 : S8x4096x512.Idx → EReal) (X3 X4 : S8x256x512.Idx → EReal) (X5 : S8x15x31.Idx → EReal)
  (k0 k1 k2 : S1x4096x128.Idx → EReal) (k3 k4 : S1x256x128.Idx → EReal) (k5 : S1x14x128x128.Idx → EReal)
  (T : S8x16x128.Idx → EReal) (b : Fin 8) (P : Fin 4) (s : Fin 4096) (e : Fin 128)

/-- Lane `e` of head pair `P`. -/
abbrev wide (P : Fin 4) (e : Fin 128) : Fin 512 := ⟨P.val * 128 + e.val, by omega⟩

/-- The head of that lane. -/
abbrev head (P : Fin 4) (e : Fin 128) : Fin 8 := ⟨(P.val * 128 + e.val) / 64, by omega⟩

/-- The grid row of a token. -/
abbrev rowOf (s : Fin 4096) : Fin 64 := ⟨s.val / 64, by omega⟩

/-- The row of the doubled query block that holds token `s` of lane `e`'s head. -/
abbrev rowQ (s : Fin 4096) (e : Fin 128) : Fin 128 := ⟨e.val / 64 * 64 + s.val % 64, by omega⟩

/-- One score's product of the launch: the head's lanes alone. -/
theorem dot_apply (h0 : ∀ s e, k0 (ix3 0 s e) = X0 (ix3 b s (wide P e)) * Ideal.ofBits .f32 0x3E000000#32)
    (f0 : ∀ z, real (X0 z)) (y : Fin 128 → EReal) (Y : Fin 512 → EReal) (hy : ∀ e, y e = Y (wide P e)) (fY : ∀ z, real (Y z)) :
    ∑ x, hqb k0 (rowOf s) (rowQ s e) x * y x
      = (∑ x, X0 (ix3 b s (lane (head P e) x)) * Y (lane (head P e) x)) * Ideal.ofBits .f32 0x3E000000#32 := by
  rw [← scale_sum _ _ (fun x => f0 _) (fun x => fY _)]
  have e1 : ∀ x : Fin 128, hqb k0 (rowOf s) (rowQ s e) x = if e.val / 64 = x.val / 64 then X0 (ix3 b s (wide P x)) * Ideal.ofBits .f32 0x3E000000#32 else 0 := by
    intro x
    unfold hqb
    refine if_congr (by simp only []; omega) ?_ rfl
    rw [← h0]
    refine congrArg k0 (congrArg (fun s => ix3 0 s x) (Fin.ext ?_))
    simp only []
    omega
  rw [Finset.sum_congr rfl fun x _ => by rw [e1, hy]]
  rw [half_sum (e.val / 64) (by omega) (fun x => X0 (ix3 b s (wide P x)) * Ideal.ofBits .f32 0x3E000000#32) (fun x => Y (wide P x))]
  refine Finset.sum_congr rfl fun x _ => ?_
  have e2 : wide P ⟨e.val / 64 * 64 + x.val, by omega⟩ = lane (head P e) x := Fin.ext (by simp only []; omega)
  simp only [e2]

/-- A window key's score in the launch is its score in the plain attention. -/
theorem sK_apply (h0 : ∀ s e, k0 (ix3 0 s e) = X0 (ix3 b s (wide P e)) * Ideal.ofBits .f32 0x3E000000#32)
    (h1 : ∀ s e, k1 (ix3 0 s e) = X1 (ix3 b s (wide P e)))
    (h5 : ∀ j p l, k5 (ix4 0 j p l) = if min 48 (p.val % 64 - 8) ≤ l.val % 64 ∧ l.val % 64 < min 48 (p.val % 64 - 8) + 16 then
      T (ix3 ⟨2 * P.val + p.val / 64, by omega⟩ ⟨j.val + l.val / 64, by omega⟩ ⟨(l.val % 64 + 15 - p.val % 64) % 128, by omega⟩) else ⊥)
    (hT : ∀ (h : Fin 8) (a : Fin 15) (c : Fin 31) (a' : Fin 16) (c' : Fin 128), a'.val = a.val → c'.val = c.val → T (ix3 h a' c') = X5 (ix3 h a c))
    (f0 : ∀ z, real (X0 z)) (f1 : ∀ z, real (X1 z)) (κ : Fin 512) :
    sK k0 k1 k5 (rowOf s) (rowQ s e) κ = aR X0 X1 X5 b (head P e) s (tok (rowOf s) κ) := by
  unfold sK
  rw [dot_apply X0 k0 b P s e h0 f0 (fun x => k1 (ix3 0 (tok (rowOf s) κ) x)) (fun d => X1 (ix3 b (tok (rowOf s) κ) d)) (fun x => h1 _ _) (fun d => f1 _), h5]
  have hr : rs (rowOf s).val = min 56 (s.val / 64 - 4) := rfl
  have ht : (tok (rowOf s) κ).val = 64 * rs (rowOf s).val + κ.val := rfl
  unfold aR
  by_cases hv : min 48 ((rowQ s e).val % 64 - 8) ≤ κ.val % 128 % 64 ∧ κ.val % 128 % 64 < min 48 ((rowQ s e).val % 64 - 8) + 16
  · have hv' : valid s (tok (rowOf s) κ) := by
      unfold valid; rw [ht, hr]; simp only [] at hv; omega
    rw [if_pos hv, if_pos hv']
    rw [← hT (head P e) ⟨min 14 ((tok (rowOf s) κ).val / 64 + 7 - s.val / 64), by omega⟩
      ⟨min 30 ((tok (rowOf s) κ).val % 64 + 15 - s.val % 64), by omega⟩
      ⟨min 14 ((tok (rowOf s) κ).val / 64 + 7 - s.val / 64), by omega⟩
      ⟨min 30 ((tok (rowOf s) κ).val % 64 + 15 - s.val % 64), by omega⟩ rfl rfl]
    refine congrArg _ (congrArg T ?_)
    simp only [] at hv
    congr 1 <;> refine Fin.ext ?_ <;> simp only [ht, hr] <;> omega
  · have hv' : ¬ valid s (tok (rowOf s) κ) := by
      unfold valid; rw [ht, hr]; simp only [] at hv; omega
    rw [if_neg hv, if_neg hv', EReal.add_bot]
end

section
variable (X0 X1 X2 : S8x4096x512.Idx → EReal) (X3 X4 : S8x256x512.Idx → EReal) (X5 : S8x15x31.Idx → EReal)
  (k0 k1 k2 : S1x4096x128.Idx → EReal) (k3 k4 : S1x256x128.Idx → EReal) (k5 : S1x14x128x128.Idx → EReal)
  (T : S8x16x128.Idx → EReal) (b : Fin 8) (P : Fin 4) (s : Fin 4096) (e : Fin 128)

/-- The launch's block is the plain attention. -/
theorem link (h0 : ∀ s e, k0 (ix3 0 s e) = X0 (ix3 b s (wide P e)) * Ideal.ofBits .f32 0x3E000000#32)
    (h1 : ∀ s e, k1 (ix3 0 s e) = X1 (ix3 b s (wide P e))) (h2 : ∀ s e, k2 (ix3 0 s e) = X2 (ix3 b s (wide P e)))
    (h3 : ∀ s e, k3 (ix3 0 s e) = X3 (ix3 b s (wide P e))) (h4 : ∀ s e, k4 (ix3 0 s e) = X4 (ix3 b s (wide P e)))
    (h5 : ∀ j p l, k5 (ix4 0 j p l) = if min 48 (p.val % 64 - 8) ≤ l.val % 64 ∧ l.val % 64 < min 48 (p.val % 64 - 8) + 16 then
      T (ix3 ⟨2 * P.val + p.val / 64, by omega⟩ ⟨j.val + l.val / 64, by omega⟩ ⟨(l.val % 64 + 15 - p.val % 64) % 128, by omega⟩) else ⊥)
    (hT : ∀ (h : Fin 8) (a : Fin 15) (c : Fin 31) (a' : Fin 16) (c' : Fin 128), a'.val = a.val → c'.val = c.val → T (ix3 h a' c') = X5 (ix3 h a c))
    (f0 : ∀ z, real (X0 z)) (f1 : ∀ z, real (X1 z)) (f3 : ∀ z, real (X3 z)) (f5 : ∀ z, real (X5 z)) :
    blkAt k0 k1 k2 k3 k4 k5 (ix3 0 s e) = outR X0 X1 X2 X3 X4 X5 b s (wide P e) := by
  show oK k0 k1 k2 k3 k4 k5 (rowOf s) (rowQ s e) e = _
  have hs := sK_apply X0 X1 X5 k0 k1 k5 T b P s e h0 h1 h5 hT f0 f1
  have hc : ∀ l, cK k0 k3 (rowOf s) (rowQ s e) l = cR X0 X3 b (head P e) s l := fun l =>
    dot_apply X0 k0 b P s e h0 f0 (fun x => k3 (ix3 0 l x)) (fun d => X3 (ix3 b l d)) (fun x => h3 _ _) (fun d => f3 _)
  have hw : Function.Injective (tok (rowOf s)) := fun a c h => by
    have := congrArg Fin.val h
    exact Fin.ext (by unfold tok at this; simp only [] at this; omega)
  have hout : ∀ j, (∀ κ, tok (rowOf s) κ ≠ j) → aR X0 X1 X5 b (head P e) s j = ⊥ := fun j hj => by
    refine if_neg fun hv => ?_
    unfold valid at hv
    refine hj ⟨j.val - 64 * rs (rowOf s).val, ?_⟩ (Fin.ext ?_)
    · show j.val - 64 * min 56 (s.val / 64 - 4) < 512
      omega
    · show 64 * min 56 (s.val / 64 - 4) + (j.val - 64 * min 56 (s.val / 64 - 4)) = j.val
      omega
  have hA : ∀ j, aR X0 X1 X5 b (head P e) s j ≠ ⊤ := fun j => by
    unfold aR
    split
    · obtain ⟨r, hr⟩ := real_sum (fun x => X0 (ix3 b s (lane (head P e) x))) (fun x => X1 (ix3 b j (lane (head P e) x))) (fun _ => f0 _) (fun _ => f1 _)
      rw [hr, (f5 _).eq, ← EReal.coe_add]
      exact EReal.coe_ne_top _
    · exact bot_ne_top
  have hC : ∀ l, ∃ r : ℝ, cR X0 X3 b (head P e) s l = (r : EReal) := fun l =>
    real_sum (fun x => X0 (ix3 b s (lane (head P e) x))) (fun x => X3 (ix3 b l (lane (head P e) x))) (fun _ => f0 _) (fun _ => f3 _)
  have hm : mK k0 k1 k3 k5 (rowOf s) (rowQ s e) = mR X0 X1 X3 X5 b (head P e) s := by
    unfold mK mR
    simp only [hs, hc]
    rw [ninf, Cert.Attn.fold_sup, Cert.Attn.fold_sup, Cert.Attn.sup_window (aR X0 X1 X5 b (head P e) s) (tok (rowOf s)) hout]
  unfold oK
  simp only [hs, hc, hm, h2, h4]
  exact Cert.Attn.attend (aR X0 X1 X5 b (head P e) s) (cR X0 X3 b (head P e) s) (fun j => X2 (ix3 b j (wide P e))) (fun l => X4 (ix3 b l (wide P e)))
    (tok (rowOf s)) hw hout hA (fun l => by obtain ⟨r, hr⟩ := hC l; rw [hr]; exact EReal.coe_ne_top _)
    (fun l => by obtain ⟨r, hr⟩ := hC l; rw [hr]; exact EReal.coe_ne_bot _) _ rfl
end

end Cert.KernelIdeal.Attn

end
-- ==== Proof.AttnOut.lean ====
/- The value of the attention: the two launches leave the plain attention's result. -/
module

public import proofs.«01_k».proof.Proof.AttnFin
public import proofs.«01_k».proof.Proof.AttnLink

@[expose] public section

set_option maxRecDepth 16384

noncomputable section

namespace Cert.KernelIdeal.Attn

open Cert.KernelIdeal Cert.KernelIdeal.Gen Idealize.ShloMosaic Idealize.ShloMosaic.TcCoe Idealize.SL.Sem
open Cert.ReferenceIdeal.Read (val_main_v109)

variable (m : (ℓ : Loc nD τ sig) → Buf (Elt Ideal) ℓ) (ρ : Dev nD → PrngReg)

/-- An argument as the second launch reads it. -/
theorem V3_arg (c : Dev nD) (a : Ref sig .tc) (ha : a ∈ argRefs) : V3 m ρ c a = m ((c : Thread nD τ).loc a) := W3_args m ρ c a ha

/-- The result array after both launches is the plain attention of the arguments. -/
theorem final (c : Dev nD) (f0 : ∀ z, real (m ((c : Thread nD τ).loc main_arg0) z)) (f1 : ∀ z, real (m ((c : Thread nD τ).loc main_arg1) z))
    (f3 : ∀ z, real (m ((c : Thread nD τ).loc main_arg3) z)) (f5 : ∀ z, real (m ((c : Thread nD τ).loc main_arg5) z)) :
    (dat1 (V3 m ρ) c).arrAt 6 cfg1.N
      = val_main_v109 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine final1 (V3 m ρ) c _ fun t s e b d hb hd => ?_
  have hq : t.val % 4 < 4 := Nat.mod_lt _ (by decide)
  refine Eq.trans ?_ (Cert.ReferenceIdeal.Attn.v109_apply _ _ _ _ _ _ b s d).symm
  have hw : ∀ x : Fin 128, (wide (⟨t.val % 4, hq⟩ : Fin 4) x).val = t.val % 4 * 128 + x.val := fun x => rfl
  obtain rfl : d = wide (⟨t.val % 4, hq⟩ : Fin 4) e := Fin.ext hd
  refine link (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
    _ _ _ _ _ _ (V2 m ρ c main_v3) b (⟨t.val % 4, hq⟩ : Fin 4) s e ?_ ?_ ?_ ?_ ?_ ?_ ?_ f0 f1 f3 f5
  · exact fun s e => (blk1_0 (V3 m ρ) c t s e b _ hb (hw e)).trans (V3_v2 m ρ c _)
  · exact fun s e => (blk1_1 (V3 m ρ) c t s e b _ hb (hw e)).trans (congrFun (V3_arg m ρ c main_arg1 (by decide)) _)
  · exact fun s e => (blk1_2 (V3 m ρ) c t s e b _ hb (hw e)).trans (congrFun (V3_arg m ρ c main_arg2 (by decide)) _)
  · exact fun s e => (blk1_3 (V3 m ρ) c t s e b _ hb (hw e)).trans (congrFun (V3_arg m ρ c main_arg3 (by decide)) _)
  · exact fun s e => (blk1_4 (V3 m ρ) c t s e b _ hb (hw e)).trans (congrFun (V3_arg m ρ c main_arg4 (by decide)) _)
  · exact fun j p l => (blk1_5 (V3 m ρ) c t j p l ⟨t.val % 4, hq⟩ rfl).trans (V3_v4 m ρ c _ j p l)
  · exact fun h a b' a' b'' ha hb' => V2_v3 m ρ c h a b' a' b'' ha hb'

end Cert.KernelIdeal.Attn

end
-- ==== Proof.Finite.lean ====
/- What the precondition of the attention's value says: the queries, keys, context keys and biases are real numbers. -/
module

public import proofs.«01_k».proof.Pre_finite
public import proofs.«01_k».proof.Proof.AttnLink
public import Idealize.ShloMosaic.Lib.ReduceAll

@[expose] public section

set_option maxRecDepth 16384

noncomputable section

namespace Cert.Pre_finite

open Idealize.ShloMosaic
open Cert.KernelIdeal.Attn (real)

/-- The shapes' relations the precondition's operations take. -/
instance facts : Facts where
  bcast_S_S8x4096x512 := by decide
  reducesTo_S8x4096x512_S_d0_1_2 := by decide
  h_S_ := by decide
  bcast_S_S8x256x512 := by decide
  reducesTo_S8x256x512_S_d0_1_2 := by decide
  bcast_S_S8x15x31 := by decide
  reducesTo_S8x15x31_S_d0_1_2 := by decide

/-- The scalar shape has one index. -/
instance : Subsingleton S_.Idx := ⟨fun a b => funext fun i => i.elim0⟩

/-- Two comparisons that both hold bound the value by what they compare with. -/
theorem real_of {φ : FTy} (x lo hi : Ideal φ) (hlo : lo = (⊥ : EReal)) (hhi : hi = (⊤ : EReal))
    (h : IntOp.andi (FloatOps.cmpf (F := Ideal) .ogt x lo) (FloatOps.cmpf (F := Ideal) .olt x hi) = 1#1) : real x := by
  obtain ⟨h1, h2⟩ := IntOp.andi_eq_one.1 h
  subst hlo hhi
  have key : ∀ p : Prop, [Decidable p] → BitVec.ofBool (decide p) = 1#1 → p := fun p _ hp => by
    by_contra hn
    rw [decide_eq_false hn] at hp
    exact absurd hp (by decide)
  exact ⟨key _ h1, key _ h2⟩

/-- The `f32` pattern of minus infinity. -/
theorem lo32 : Ideal.ofBits .f32 0xFF800000#32 = (⊥ : EReal) := by simp [Ideal.ofBits, Ideal.ieee]

/-- The `f32` pattern of infinity. -/
theorem hi32 : Ideal.ofBits .f32 0x7F800000#32 = (⊤ : EReal) := by simp [Ideal.ofBits, Ideal.ieee]

/-- The `bf16` pattern of minus infinity. -/
theorem lo16 : Ideal.ofBits .bf16 0xFF80#16 = (⊥ : EReal) := by simp [Ideal.ofBits, Ideal.ieee]

/-- The `bf16` pattern of infinity. -/
theorem hi16 : Ideal.ofBits .bf16 0x7F80#16 = (⊤ : EReal) := by simp [Ideal.ofBits, Ideal.ieee]

variable (X0 : FVec Ideal S8x4096x512 .f32) (X1 X2 : FVec Ideal S8x4096x512 .bf16) (X3 X4 : FVec Ideal S8x256x512 .bf16) (X5 : FVec Ideal S8x15x31 .f32)

/-- The precondition's meaning. -/
theorem real_of_fn (h : ∀ z, fn (F := Ideal) X0 X1 X2 X3 X4 X5 z = 1#1) :
    (∀ z, real (X0 z)) ∧ (∀ z, real (X1 z)) ∧ (∀ z, real (X3 z)) ∧ ∀ z, real (X5 z) := by
  have e := h (Shape.Idx.first Facts.h_S_)
  unfold fn fn_part1 at e
  obtain ⟨e, e5⟩ := IntOp.andi_eq_one.1 e
  obtain ⟨e, e3⟩ := IntOp.andi_eq_one.1 e
  obtain ⟨e0, e1⟩ := IntOp.andi_eq_one.1 e
  refine ⟨fun z => ?_, fun z => ?_, fun z => ?_, fun z => ?_⟩
  · exact real_of _ _ _ lo32 hi32 (Host.reduce_andi_all _ _ _ _ _ e0 z)
  · exact real_of _ _ _ lo16 hi16 (Host.reduce_andi_all _ _ _ _ _ e1 z)
  · exact real_of _ _ _ lo16 hi16 (Host.reduce_andi_all _ _ _ _ _ e3 z)
  · exact real_of _ _ _ lo32 hi32 (Host.reduce_andi_all _ _ _ _ _ e5 z)

end Cert.Pre_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.InProj
public import proofs.«01_k».proof.Proof.Ffn
public import proofs.«01_k».proof.Proof.AttnOut
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

open Idealize.ShloMosaic.TcCoe

/-- `Kernel` runs to its end, leaves its arguments as they were and every counter at zero. -/
theorem frame_Kernel : Cert.quiescent_Kernel := fun m g _ => Cert.Kernel.Gen.frame m g

/-- `KernelIdeal` runs to its end, leaves its arguments as they were and every counter at zero. -/
theorem frame_KernelIdeal : Cert.quiescent_KernelIdeal := fun m g _ => Cert.KernelIdeal.Gen.frame m g

/-- The same under the precondition of the value claim. -/
theorem frame_KernelIdeal_finite : Cert.quiescent_KernelIdeal_pre_finite := fun m g _ => Cert.KernelIdeal.Gen.frame m g

/-- `Kernel2` runs to its end, leaves its arguments as they were and every counter at zero. -/
theorem frame_Kernel2 : Cert.quiescent_Kernel2 := fun m g _ => Cert.Kernel2.Gen.frame m g

/-- `Kernel2Ideal` runs to its end, leaves its arguments as they were and every counter at zero. -/
theorem frame_Kernel2Ideal : Cert.quiescent_Kernel2Ideal := fun m g _ => Cert.Kernel2Ideal.Gen.frame m g

/-- `Kernel3` runs to its end, leaves its arguments as they were and every counter at zero. -/
theorem frame_Kernel3 : Cert.quiescent_Kernel3 := fun m g _ => Cert.Kernel3.Gen.frame m g

/-- `Kernel3Ideal` runs to its end, leaves its arguments as they were and every counter at zero. -/
theorem frame_Kernel3Ideal : Cert.quiescent_Kernel3Ideal := fun m g _ => Cert.Kernel3Ideal.Gen.frame m g

/-- `ReferenceIdeal` runs to its end, leaves its arguments as they were and every counter at zero. -/
theorem frame_ReferenceIdeal : Cert.quiescent_ReferenceIdeal := fun m g _ =>
  (θ_run _ _ _).mono (fun r h => ⟨fun c => (h c).2, sem_eq_zero_of_no_sems (by decide) r.2⟩)
    (Cert.ReferenceIdeal.Value.run m g)

/-- The same under the precondition of the value claim. -/
theorem frame_ReferenceIdeal_finite : Cert.quiescent_ReferenceIdeal_pre_finite := fun m g _ => frame_ReferenceIdeal m g trivial

/-- `Reference2Ideal` runs to its end, leaves its arguments as they were and every counter at zero. -/
theorem frame_Reference2Ideal : Cert.quiescent_Reference2Ideal := fun m g _ =>
  (θ_run _ _ _).mono (fun r h => ⟨fun c => (h c).2, sem_eq_zero_of_no_sems (by decide) r.2⟩)
    (Cert.Reference2Ideal.Value.run m g)

/-- `Reference3Ideal` runs to its end, leaves its arguments as they were and every counter at zero. -/
theorem frame_Reference3Ideal : Cert.quiescent_Reference3Ideal := fun m g _ =>
  (θ_run _ _ _).mono (fun r h => ⟨fun c => (h c).2.2.2.2.2.2.2.2.2, sem_eq_zero_of_no_sems (by decide) r.2⟩)
    (Cert.Reference3Ideal.Value.run m g)

/-- The constant under the mask is the one named, read as the bottom element. -/
theorem preserves_Kernel : Cert.preserves_Kernel_KernelIdeal :=
  IdealRules.named_const.statement Cert.KernelIdeal.κ "mask" .f32 0xF149F2CA#32 ⊥ rfl

set_option maxHeartbeats 1600000 in
/-- The attention: the two launches and the plain computation end equal, for real queries, keys, context keys and biases. -/
theorem algebraic_Kernel : Cert.algebraic_KernelIdeal_ReferenceIdeal_pre_finite := by
  pair_intro
  · run_from Cert.KernelIdeal.Attn.run m g
  · run_from Cert.ReferenceIdeal.Value.run m' g'
    rw [Cert.ReferenceIdeal.Read.val_main_v109_eq]
    obtain ⟨h0, h1, h2, h3, h4, h5⟩ := hagree c
    rw [h0, h1, h2, h3, h4, h5]
    obtain ⟨f0, f1, f3, f5⟩ := Cert.Pre_finite.real_of_fn _ _ _ _ _ _ (fun z => congrFun (hpre c) z)
    exact (Cert.KernelIdeal.Attn.final m g c f0 f1 f3 f5).symm

set_option maxHeartbeats 1600000 in
/-- The output projection, feed-forward block and final normalisation: launch and plain computation end equal. -/
theorem algebraic_Kernel2 : Cert.algebraic_Kernel2Ideal_Reference2Ideal := by
  pair_intro
  · run_from Cert.Kernel2Ideal.Value.run_blocks m g
  · run_from Cert.Reference2Ideal.Value.run m' g'
    rw [Cert.Reference2Ideal.Read.val_main_v67_eq]
    obtain ⟨h0, h1, h2, h3, h4, h5, h6, h7, h8, h9, h10⟩ := hagree c
    rw [h0, h1, h2, h3, h4, h5, h6, h7, h8, h9, h10]
    exact (Cert.Kernel2Ideal.Ffn.final m c).symm

set_option maxHeartbeats 1600000 in
/-- The input projection: all nine results of the launch and of the plain computation are equal. -/
theorem algebraic_Kernel3 : Cert.algebraic_Kernel3Ideal_Reference3Ideal := by
  pair_intro
  · run_from Cert.Kernel3Ideal.Value.run_blocks m g
  · run_from Cert.Reference3Ideal.Value.run m' g'
    · exact (Cert.Kernel3Ideal.InProj.final5 m c).symm
    · exact (Cert.Kernel3Ideal.InProj.final6 m c).symm
    · exact (Cert.Kernel3Ideal.InProj.final7 m c).symm
    · exact (Cert.Kernel3Ideal.InProj.final8 m c).symm
    · exact (Cert.Kernel3Ideal.InProj.final9 m c).symm
    · exact (Cert.Kernel3Ideal.InProj.final10 m c).symm
    · exact (Cert.Kernel3Ideal.InProj.final11 m c).symm
    · exact (Cert.Kernel3Ideal.InProj.final12 m c).symm
    · exact (Cert.Kernel3Ideal.InProj.final13 m c).symm

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.facts, by
  exact ⟨frame_Kernel, frame_KernelIdeal, frame_KernelIdeal_finite, frame_ReferenceIdeal, frame_ReferenceIdeal_finite, frame_Kernel2, frame_Kernel2Ideal, frame_Reference2Ideal, frame_Kernel3,
    frame_Kernel3Ideal, frame_Reference3Ideal, preserves_Kernel, algebraic_Kernel, trivial, algebraic_Kernel2, trivial, algebraic_Kernel3⟩⟩

end Cert.Proof

end
